-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v29_0)) (v1 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29_0) = v0 c
          ∧ r.2.mem ((c.tc : Thread Cert.KernelIdeal.nD Cert.KernelIdeal.τ).loc Cert.KernelIdeal.main_v30) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v181) = v0 c
          ∧ r.2.mem ((c.tc : Thread Cert.ReferenceIdeal.nD Cert.ReferenceIdeal.τ).loc Cert.ReferenceIdeal.main_v179) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x256x2048 : Shape := ⟨3, ![16, 256, 2048]⟩
abbrev S8x1024x256 : Shape := ⟨3, ![8, 1024, 256]⟩
abbrev S_ : Shape := ⟨0, ![]⟩

class Facts : Prop where
  bcast_S_S16x256x2048 : S_.BroadcastsInDim S16x256x2048 (![] : Fin 0 → Fin S16x256x2048.rank)
  reducesTo_S16x256x2048_S_d0_1_2 : S16x256x2048.ReducesTo [0, 1, 2] S_
  h_S_ : 0 < S_.numel
  bcast_S_S8x1024x256 : S_.BroadcastsInDim S8x1024x256 (![] : Fin 0 → Fin S8x1024x256.rank)
  reducesTo_S8x1024x256_S_d0_1_2 : S8x1024x256.ReducesTo [0, 1, 2] S_

variable [Facts]

def fn {F : FTy → Type} [FloatOps F] (main_arg0 : FVec F S16x256x2048 .f32) (main_arg1 : FVec F S8x1024x256 .f32) : IVec S_ 1 :=
  let main_v0 : FVec F S16x256x2048 .f32 := Host.absf main_arg0
  let main_cst : FVec F S_ .f32 := constant S_ .f32 0x7F800000#32
  let main_v1 : FVec F S16x256x2048 .f32 := broadcastInDim S16x256x2048 ![] bcast_S_S16x256x2048 main_cst
  let main_v2 : IVec S16x256x2048 1 := cmpf .olt main_v0 main_v1
  let main_c : IVec S_ 1 := constantI S_ 1 1#1
  let main_v3 : IVec S_ 1 := (fun x v => Host.reduce IntOp.andi x v reducesTo_S16x256x2048_S_d0_1_2 h_S_) main_v2 main_c
  let main_v4 : FVec F S8x1024x256 .f32 := Host.absf main_arg1
  let main_cst_0 : FVec F S_ .f32 := constant S_ .f32 0x7F800000#32
  let main_v5 : FVec F S8x1024x256 .f32 := broadcastInDim S8x1024x256 ![] bcast_S_S8x1024x256 main_cst_0
  let main_v6 : IVec S8x1024x256 1 := cmpf .olt main_v4 main_v5
  let main_c_1 : IVec S_ 1 := constantI S_ 1 1#1
  let main_v7 : IVec S_ 1 := (fun x v => Host.reduce IntOp.andi x v reducesTo_S8x1024x256_S_d0_1_2 h_S_) main_v6 main_c_1
  let main_v8 : IVec S_ 1 := andi main_v3 main_v7
  main_v8
-- ==== Kernel.lean ====
abbrev S16x256x2048 : Shape := ⟨3, ![16, 256, 2048]⟩
abbrev S8x1024x256 : Shape := ⟨3, ![8, 1024, 256]⟩
abbrev S8x256x1024 : Shape := ⟨3, ![8, 256, 1024]⟩
abbrev S_ : Shape := ⟨0, ![]⟩
abbrev S8x1024 : Shape := ⟨2, ![8, 1024]⟩
abbrev S8x1024x1 : Shape := ⟨3, ![8, 1024, 1]⟩
abbrev S16x8x2048 : Shape := ⟨3, ![16, 8, 2048]⟩
abbrev S1x256x1024 : Shape := ⟨3, ![1, 256, 1024]⟩
abbrev S1x8x1024 : Shape := ⟨3, ![1, 8, 1024]⟩
abbrev S1024x1024 : Shape := ⟨2, ![1024, 1024]⟩
abbrev S256x1024 : Shape := ⟨2, ![256, 1024]⟩
abbrev S1x1024x256 : Shape := ⟨3, ![1, 1024, 256]⟩
abbrev S1024x256 : Shape := ⟨2, ![1024, 256]⟩
abbrev S1024 : Shape := ⟨1, ![1024]⟩
abbrev S1x1024 : Shape := ⟨2, ![1, 1024]⟩
abbrev S1x1024x1 : Shape := ⟨3, ![1, 1024, 1]⟩
abbrev S1024x1 : Shape := ⟨2, ![1024, 1]⟩
abbrev S8x16x2048 : Shape := ⟨3, ![8, 16, 2048]⟩

abbrev nBuf : Space → Nat
  | .hbm => 37
  | .vmem => 11
  | .smem => 0
  | _ => 0

abbrev bufTy : (tb : Table) → Fin (tcTables nBuf tb) → BufTy
  | .hbm, ⟨0, _⟩ => ⟨S16x256x2048, .f32⟩
  | .hbm, ⟨1, _⟩ => ⟨S8x1024x256, .f32⟩
  | .hbm, ⟨2, _⟩ => ⟨S8x256x1024, .f32⟩
  | .hbm, ⟨3, _⟩ => ⟨S8x256x1024, .bf16⟩
  | .hbm, ⟨4, _⟩ => ⟨S8x256x1024, .f32⟩
  | .hbm, ⟨5, _⟩ => ⟨S_, .f32⟩
  | .hbm, ⟨6, _⟩ => ⟨S8x256x1024, .f32⟩
  | .hbm, ⟨7, _⟩ => ⟨S8x256x1024, .f32⟩
  | .hbm, ⟨8, _⟩ => ⟨S8x256x1024, .bf16⟩
  | .hbm, ⟨9, _⟩ => ⟨S8x256x1024, .f32⟩
  | .hbm, ⟨10, _⟩ => ⟨S8x256x1024, .f32⟩
  | .hbm, ⟨11, _⟩ => ⟨S8x256x1024, .f32⟩
  | .hbm, ⟨12, _⟩ => ⟨S8x256x1024, .i1⟩
  | .hbm, ⟨13, _⟩ => ⟨S8x256x1024, .f32⟩
  | .hbm, ⟨14, _⟩ => ⟨S8x256x1024, .f32⟩
  | .hbm, ⟨15, _⟩ => ⟨S8x256x1024, .bf16⟩
  | .hbm, ⟨16, _⟩ => ⟨S8x256x1024, .f32⟩
  | .hbm, ⟨17, _⟩ => ⟨S_, .f32⟩
  | .hbm, ⟨18, _⟩ => ⟨S8x256x1024, .f32⟩
  | .hbm, ⟨19, _⟩ => ⟨S8x256x1024, .f32⟩
  | .hbm, ⟨20, _⟩ => ⟨S8x256x1024, .bf16⟩
  | .hbm, ⟨21, _⟩ => ⟨S8x256x1024, .f32⟩
  | .hbm, ⟨22, _⟩ => ⟨S8x256x1024, .f32⟩
  | .hbm, ⟨23, _⟩ => ⟨S8x256x1024, .f32⟩
  | .hbm, ⟨24, _⟩ => ⟨S8x256x1024, .i1⟩
  | .hbm, ⟨25, _⟩ => ⟨S8x256x1024, .f32⟩
  | .hbm, ⟨26, _⟩ => ⟨S8x256x1024, .f32⟩
  | .hbm, ⟨27, _⟩ => ⟨S8x256x1024, .bf16⟩
  | .hbm, ⟨28, _⟩ => ⟨S8x256x1024, .bf16⟩
  | .hbm, ⟨29, _⟩ => ⟨S8x256x1024, .bf16⟩
  | .hbm, ⟨30, _⟩ => ⟨S8x1024x256, .f32⟩
  | .hbm, ⟨31, _⟩ => ⟨S_, .f32⟩
  | .hbm, ⟨32, _⟩ => ⟨S8x1024, .f32⟩
  | .hbm, ⟨33, _⟩ => ⟨S8x1024x1, .f32⟩
  | .hbm, ⟨34, _⟩ => ⟨S16x256x2048, .f32⟩
  | .hbm, ⟨35, _⟩ => ⟨S16x8x2048, .i32⟩
  | .hbm, ⟨36, _⟩ => ⟨S8x16x2048, .i32⟩
  | .local _ .vmem, ⟨0, _⟩ => ⟨S1x256x1024, .f32⟩
  | .local _ .vmem, ⟨1, _⟩ => ⟨S1x256x1024, .f32⟩
  | .local _ .vmem, ⟨2, _⟩ => ⟨S8x1024x256, .f32⟩
  | .local _ .vmem, ⟨3, _⟩ => ⟨S8x256x1024, .f32⟩
  | .local _ .vmem, ⟨4, _⟩ => ⟨S8x256x1024, .bf16⟩
  | .local _ .vmem, ⟨5, _⟩ => ⟨S8x256x1024, .bf16⟩
  | .local _ .vmem, ⟨6, _⟩ => ⟨S8x1024x1, .f32⟩
  | .local _ .vmem, ⟨7, _⟩ => ⟨S1x256x1024, .f32⟩
  | .local _ .vmem, ⟨8, _⟩ => ⟨S1x256x1024, .f32⟩
  | .local _ .vmem, ⟨9, _⟩ => ⟨S1x8x1024, .i32⟩
  | .local _ .vmem, ⟨10, _⟩ => ⟨S1x8x1024, .i32⟩
  | _, _ => ⟨S16x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_1 : Ref sig .tc := ⟨.hbm, 31, rfl⟩
abbrev main_v27 : Ref sig .tc := ⟨.hbm, 32, rfl⟩
abbrev main_v28 : Ref sig .tc := ⟨.hbm, 33, rfl⟩
abbrev main_v29_0 : Ref sig .tc := ⟨.hbm, 34, rfl⟩
abbrev main_v29_1 : Ref sig .tc := ⟨.hbm, 35, rfl⟩
abbrev main_v30 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x1024x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x1024 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S16x256x2048 : Shape := ⟨3, ![16, 256, 2048]⟩
abbrev S8x1024x256 : Shape := ⟨3, ![8, 1024, 256]⟩
abbrev S16x2048x256 : Shape := ⟨3, ![16, 2048, 256]⟩
abbrev S32768x256 : Shape := ⟨2, ![32768, 256]⟩
abbrev S_ : Shape := ⟨0, ![]⟩
abbrev S1x1024x256 : Shape := ⟨3, ![1, 1024, 256]⟩
abbrev S1024x256 : Shape := ⟨2, ![1024, 256]⟩
abbrev S32768 : Shape := ⟨1, ![32768]⟩
abbrev S32768x1 : Shape := ⟨2, ![32768, 1]⟩
abbrev S256x1024 : Shape := ⟨2, ![256, 1024]⟩
abbrev S32768x1024 : Shape := ⟨2, ![32768, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩
abbrev S16x2048 : Shape := ⟨2, ![16, 2048]⟩
abbrev S1x16x2048 : Shape := ⟨3, ![1, 16, 2048]⟩
abbrev S8x16x2048 : Shape := ⟨3, ![8, 16, 2048]⟩

abbrev nBuf : Space → Nat
  | .hbm => 417
  | .vmem => 0
  | .smem => 0
  | _ => 0

abbrev hbmTy0_0 (i : Nat) : BufTy := match i % 128 with
  | 0 => ⟨S16x256x2048, .f32⟩
  | 1 => ⟨S8x1024x256, .f32⟩
  | 2 => ⟨S16x2048x256, .f32⟩
  | 3 => ⟨S32768x256, .f32⟩
  | 4 => ⟨S_, .f32⟩
  | 5 => ⟨S32768x256, .f32⟩
  | 6 => ⟨S1x1024x256, .f32⟩
  | 7 => ⟨S1024x256, .f32⟩
  | 8 => ⟨S32768x256, .f32⟩
  | 9 => ⟨S_, .f32⟩
  | 10 => ⟨S32768, .f32⟩
  | 11 => ⟨S32768x1, .f32⟩
  | 12 => ⟨S256x1024, .f32⟩
  | 13 => ⟨S32768x1024, .f32⟩
  | 14 => ⟨S_, .f32⟩
  | 15 => ⟨S32768x1024, .f32⟩
  | 16 => ⟨S32768x1024, .f32⟩
  | 17 => ⟨S32768x1024, .f32⟩
  | 18 => ⟨S32768x1024, .f32⟩
  | 19 => ⟨S1024x256, .f32⟩
  | 20 => ⟨S_, .f32⟩
  | 21 => ⟨S1024, .f32⟩
  | 22 => ⟨S1x1024, .f32⟩
  | 23 => ⟨S32768x1024, .f32⟩
  | 24 => ⟨S32768x1024, .f32⟩
  | 25 => ⟨S32768x1024, .i32⟩
  | 26 => ⟨S_, .f32⟩
  | 27 => ⟨S_, .i32⟩
  | 28 => ⟨S32768, .f32⟩
  | 29 => ⟨S32768, .i32⟩
  | 30 => ⟨S_, .i32⟩
  | 31 => ⟨S32768, .i32⟩
  | 32 => ⟨S32768, .i1⟩
  | 33 => ⟨S_, .i32⟩
  | 34 => ⟨S32768, .i32⟩
  | 35 => ⟨S32768, .i32⟩
  | 36 => ⟨S32768, .i32⟩
  | 37 => ⟨S32768x1, .i32⟩
  | 38 => ⟨S1, .i32⟩
  | 39 => ⟨S_, .i32⟩
  | 40 => ⟨S32768x1, .i32⟩
  | 41 => ⟨S32768x1, .i1⟩
  | 42 => ⟨S1x1, .i32⟩
  | 43 => ⟨S32768x1, .i32⟩
  | 44 => ⟨S32768x1, .i1⟩
  | 45 => ⟨S32768x1, .i1⟩
  | 46 => ⟨S_, .i1⟩
  | 47 => ⟨S32768, .i1⟩
  | 48 => ⟨S32768x256, .f32⟩
  | 49 => ⟨S32768x256, .i1⟩
  | 50 => ⟨S_, .f32⟩
  | 51 => ⟨S32768x256, .f32⟩
  | 52 => ⟨S32768x256, .f32⟩
  | 53 => ⟨S32768x256, .f32⟩
  | 54 => ⟨S32768x256, .f32⟩
  | 55 => ⟨S16x2048, .i32⟩
  | 56 => ⟨S1x1024x256, .f32⟩
  | 57 => ⟨S1024x256, .f32⟩
  | 58 => ⟨S32768x256, .f32⟩
  | 59 => ⟨S_, .f32⟩
  | 60 => ⟨S32768, .f32⟩
  | 61 => ⟨S32768x1, .f32⟩
  | 62 => ⟨S256x1024, .f32⟩
  | 63 => ⟨S32768x1024, .f32⟩
  | 64 => ⟨S_, .f32⟩
  | 65 => ⟨S32768x1024, .f32⟩
  | 66 => ⟨S32768x1024, .f32⟩
  | 67 => ⟨S32768x1024, .f32⟩
  | 68 => ⟨S32768x1024, .f32⟩
  | 69 => ⟨S1024x256, .f32⟩
  | 70 => ⟨S_, .f32⟩
  | 71 => ⟨S1024, .f32⟩
  | 72 => ⟨S1x1024, .f32⟩
  | 73 => ⟨S32768x1024, .f32⟩
  | 74 => ⟨S32768x1024, .f32⟩
  | 75 => ⟨S32768x1024, .i32⟩
  | 76 => ⟨S_, .f32⟩
  | 77 => ⟨S_, .i32⟩
  | 78 => ⟨S32768, .f32⟩
  | 79 => ⟨S32768, .i32⟩
  | 80 => ⟨S_, .i32⟩
  | 81 => ⟨S32768, .i32⟩
  | 82 => ⟨S32768, .i1⟩
  | 83 => ⟨S_, .i32⟩
  | 84 => ⟨S32768, .i32⟩
  | 85 => ⟨S32768, .i32⟩
  | 86 => ⟨S32768, .i32⟩
  | 87 => ⟨S32768x1, .i32⟩
  | 88 => ⟨S1, .i32⟩
  | 89 => ⟨S_, .i32⟩
  | 90 => ⟨S32768x1, .i32⟩
  | 91 => ⟨S32768x1, .i1⟩
  | 92 => ⟨S1x1, .i32⟩
  | 93 => ⟨S32768x1, .i32⟩
  | 94 => ⟨S32768x1, .i1⟩
  | 95 => ⟨S32768x1, .i1⟩
  | 96 => ⟨S_, .i1⟩
  | 97 => ⟨S32768, .i1⟩
  | 98 => ⟨S32768x256, .f32⟩
  | 99 => ⟨S32768x256, .i1⟩
  | 100 => ⟨S_, .f32⟩
  | 101 => ⟨S32768x256, .f32⟩
  | 102 => ⟨S32768x256, .f32⟩
  | 103 => ⟨S32768x256, .f32⟩
  | 104 => ⟨S32768x256, .f32⟩
  | 105 => ⟨S16x2048, .i32⟩
  | 106 => ⟨S1x1024x256, .f32⟩
  | 107 => ⟨S1024x256, .f32⟩
  | 108 => ⟨S32768x256, .f32⟩
  | 109 => ⟨S_, .f32⟩
  | 110 => ⟨S32768, .f32⟩
  | 111 => ⟨S32768x1, .f32⟩
  | 112 => ⟨S256x1024, .f32⟩
  | 113 => ⟨S32768x1024, .f32⟩
  | 114 => ⟨S_, .f32⟩
  | 115 => ⟨S32768x1024, .f32⟩
  | 116 => ⟨S32768x1024, .f32⟩
  | 117 => ⟨S32768x1024, .f32⟩
  | 118 => ⟨S32768x1024, .f32⟩
  | 119 => ⟨S1024x256, .f32⟩
  | 120 => ⟨S_, .f32⟩
  | 121 => ⟨S1024, .f32⟩
  | 122 => ⟨S1x1024, .f32⟩
  | 123 => ⟨S32768x1024, .f32⟩
  | 124 => ⟨S32768x1024, .f32⟩
  | 125 => ⟨S32768x1024, .i32⟩
  | 126 => ⟨S_, .f32⟩
  | 127 => ⟨S_, .i32⟩
  | _ => ⟨S16x256x2048, .f32⟩

abbrev hbmTy0_1 (i : Nat) : BufTy := match i % 128 with
  | 0 => ⟨S32768, .f32⟩
  | 1 => ⟨S32768, .i32⟩
  | 2 => ⟨S_, .i32⟩
  | 3 => ⟨S32768, .i32⟩
  | 4 => ⟨S32768, .i1⟩
  | 5 => ⟨S_, .i32⟩
  | 6 => ⟨S32768, .i32⟩
  | 7 => ⟨S32768, .i32⟩
  | 8 => ⟨S32768, .i32⟩
  | 9 => ⟨S32768x1, .i32⟩
  | 10 => ⟨S1, .i32⟩
  | 11 => ⟨S_, .i32⟩
  | 12 => ⟨S32768x1, .i32⟩
  | 13 => ⟨S32768x1, .i1⟩
  | 14 => ⟨S1x1, .i32⟩
  | 15 => ⟨S32768x1, .i32⟩
  | 16 => ⟨S32768x1, .i1⟩
  | 17 => ⟨S32768x1, .i1⟩
  | 18 => ⟨S_, .i1⟩
  | 19 => ⟨S32768, .i1⟩
  | 20 => ⟨S32768x256, .f32⟩
  | 21 => ⟨S32768x256, .i1⟩
  | 22 => ⟨S_, .f32⟩
  | 23 => ⟨S32768x256, .f32⟩
  | 24 => ⟨S32768x256, .f32⟩
  | 25 => ⟨S32768x256, .f32⟩
  | 26 => ⟨S32768x256, .f32⟩
  | 27 => ⟨S16x2048, .i32⟩
  | 28 => ⟨S1x1024x256, .f32⟩
  | 29 => ⟨S1024x256, .f32⟩
  | 30 => ⟨S32768x256, .f32⟩
  | 31 => ⟨S_, .f32⟩
  | 32 => ⟨S32768, .f32⟩
  | 33 => ⟨S32768x1, .f32⟩
  | 34 => ⟨S256x1024, .f32⟩
  | 35 => ⟨S32768x1024, .f32⟩
  | 36 => ⟨S_, .f32⟩
  | 37 => ⟨S32768x1024, .f32⟩
  | 38 => ⟨S32768x1024, .f32⟩
  | 39 => ⟨S32768x1024, .f32⟩
  | 40 => ⟨S32768x1024, .f32⟩
  | 41 => ⟨S1024x256, .f32⟩
  | 42 => ⟨S_, .f32⟩
  | 43 => ⟨S1024, .f32⟩
  | 44 => ⟨S1x1024, .f32⟩
  | 45 => ⟨S32768x1024, .f32⟩
  | 46 => ⟨S32768x1024, .f32⟩
  | 47 => ⟨S32768x1024, .i32⟩
  | 48 => ⟨S_, .f32⟩
  | 49 => ⟨S_, .i32⟩
  | 50 => ⟨S32768, .f32⟩
  | 51 => ⟨S32768, .i32⟩
  | 52 => ⟨S_, .i32⟩
  | 53 => ⟨S32768, .i32⟩
  | 54 => ⟨S32768, .i1⟩
  | 55 => ⟨S_, .i32⟩
  | 56 => ⟨S32768, .i32⟩
  | 57 => ⟨S32768, .i32⟩
  | 58 => ⟨S32768, .i32⟩
  | 59 => ⟨S32768x1, .i32⟩
  | 60 => ⟨S1, .i32⟩
  | 61 => ⟨S_, .i32⟩
  | 62 => ⟨S32768x1, .i32⟩
  | 63 => ⟨S32768x1, .i1⟩
  | 64 => ⟨S1x1, .i32⟩
  | 65 => ⟨S32768x1, .i32⟩
  | 66 => ⟨S32768x1, .i1⟩
  | 67 => ⟨S32768x1, .i1⟩
  | 68 => ⟨S_, .i1⟩
  | 69 => ⟨S32768, .i1⟩
  | 70 => ⟨S32768x256, .f32⟩
  | 71 => ⟨S32768x256, .i1⟩
  | 72 => ⟨S_, .f32⟩
  | 73 => ⟨S32768x256, .f32⟩
  | 74 => ⟨S32768x256, .f32⟩
  | 75 => ⟨S32768x256, .f32⟩
  | 76 => ⟨S32768x256, .f32⟩
  | 77 => ⟨S16x2048, .i32⟩
  | 78 => ⟨S1x1024x256, .f32⟩
  | 79 => ⟨S1024x256, .f32⟩
  | 80 => ⟨S32768x256, .f32⟩
  | 81 => ⟨S_, .f32⟩
  | 82 => ⟨S32768, .f32⟩
  | 83 => ⟨S32768x1, .f32⟩
  | 84 => ⟨S256x1024, .f32⟩
  | 85 => ⟨S32768x1024, .f32⟩
  | 86 => ⟨S_, .f32⟩
  | 87 => ⟨S32768x1024, .f32⟩
  | 88 => ⟨S32768x1024, .f32⟩
  | 89 => ⟨S32768x1024, .f32⟩
  | 90 => ⟨S32768x1024, .f32⟩
  | 91 => ⟨S1024x256, .f32⟩
  | 92 => ⟨S_, .f32⟩
  | 93 => ⟨S1024, .f32⟩
  | 94 => ⟨S1x1024, .f32⟩
  | 95 => ⟨S32768x1024, .f32⟩
  | 96 => ⟨S32768x1024, .f32⟩
  | 97 => ⟨S32768x1024, .i32⟩
  | 98 => ⟨S_, .f32⟩
  | 99 => ⟨S_, .i32⟩
  | 100 => ⟨S32768, .f32⟩
  | 101 => ⟨S32768, .i32⟩
  | 102 => ⟨S_, .i32⟩
  | 103 => ⟨S32768, .i32⟩
  | 104 => ⟨S32768, .i1⟩
  | 105 => ⟨S_, .i32⟩
  | 106 => ⟨S32768, .i32⟩
  | 107 => ⟨S32768, .i32⟩
  | 108 => ⟨S32768, .i32⟩
  | 109 => ⟨S32768x1, .i32⟩
  | 110 => ⟨S1, .i32⟩
  | 111 => ⟨S_, .i32⟩
  | 112 => ⟨S32768x1, .i32⟩
  | 113 => ⟨S32768x1, .i1⟩
  | 114 => ⟨S1x1, .i32⟩
  | 115 => ⟨S32768x1, .i32⟩
  | 116 => ⟨S32768x1, .i1⟩
  | 117 => ⟨S32768x1, .i1⟩
  | 118 => ⟨S_, .i1⟩
  | 119 => ⟨S32768, .i1⟩
  | 120 => ⟨S32768x256, .f32⟩
  | 121 => ⟨S32768x256, .i1⟩
  | 122 => ⟨S_, .f32⟩
  | 123 => ⟨S32768x256, .f32⟩
  | 124 => ⟨S32768x256, .f32⟩
  | 125 => ⟨S32768x256, .f32⟩
  | 126 => ⟨S32768x256, .f32⟩
  | 127 => ⟨S16x2048, .i32⟩
  | _ => ⟨S16x256x2048, .f32⟩

abbrev hbmTy0_2 (i : Nat) : BufTy := match i % 128 with
  | 0 => ⟨S1x1024x256, .f32⟩
  | 1 => ⟨S1024x256, .f32⟩
  | 2 => ⟨S32768x256, .f32⟩
  | 3 => ⟨S_, .f32⟩
  | 4 => ⟨S32768, .f32⟩
  | 5 => ⟨S32768x1, .f32⟩
  | 6 => ⟨S256x1024, .f32⟩
  | 7 => ⟨S32768x1024, .f32⟩
  | 8 => ⟨S_, .f32⟩
  | 9 => ⟨S32768x1024, .f32⟩
  | 10 => ⟨S32768x1024, .f32⟩
  | 11 => ⟨S32768x1024, .f32⟩
  | 12 => ⟨S32768x1024, .f32⟩
  | 13 => ⟨S1024x256, .f32⟩
  | 14 => ⟨S_, .f32⟩
  | 15 => ⟨S1024, .f32⟩
  | 16 => ⟨S1x1024, .f32⟩
  | 17 => ⟨S32768x1024, .f32⟩
  | 18 => ⟨S32768x1024, .f32⟩
  | 19 => ⟨S32768x1024, .i32⟩
  | 20 => ⟨S_, .f32⟩
  | 21 => ⟨S_, .i32⟩
  | 22 => ⟨S32768, .f32⟩
  | 23 => ⟨S32768, .i32⟩
  | 24 => ⟨S_, .i32⟩
  | 25 => ⟨S32768, .i32⟩
  | 26 => ⟨S32768, .i1⟩
  | 27 => ⟨S_, .i32⟩
  | 28 => ⟨S32768, .i32⟩
  | 29 => ⟨S32768, .i32⟩
  | 30 => ⟨S32768, .i32⟩
  | 31 => ⟨S32768x1, .i32⟩
  | 32 => ⟨S1, .i32⟩
  | 33 => ⟨S_, .i32⟩
  | 34 => ⟨S32768x1, .i32⟩
  | 35 => ⟨S32768x1, .i1⟩
  | 36 => ⟨S1x1, .i32⟩
  | 37 => ⟨S32768x1, .i32⟩
  | 38 => ⟨S32768x1, .i1⟩
  | 39 => ⟨S32768x1, .i1⟩
  | 40 => ⟨S_, .i1⟩
  | 41 => ⟨S32768, .i1⟩
  | 42 => ⟨S32768x256, .f32⟩
  | 43 => ⟨S32768x256, .i1⟩
  | 44 => ⟨S_, .f32⟩
  | 45 => ⟨S32768x256, .f32⟩
  | 46 => ⟨S32768x256, .f32⟩
  | 47 => ⟨S32768x256, .f32⟩
  | 48 => ⟨S32768x256, .f32⟩
  | 49 => ⟨S16x2048, .i32⟩
  | 50 => ⟨S1x1024x256, .f32⟩
  | 51 => ⟨S1024x256, .f32⟩
  | 52 => ⟨S32768x256, .f32⟩
  | 53 => ⟨S_, .f32⟩
  | 54 => ⟨S32768, .f32⟩
  | 55 => ⟨S32768x1, .f32⟩
  | 56 => ⟨S256x1024, .f32⟩
  | 57 => ⟨S32768x1024, .f32⟩
  | 58 => ⟨S_, .f32⟩
  | 59 => ⟨S32768x1024, .f32⟩
  | 60 => ⟨S32768x1024, .f32⟩
  | 61 => ⟨S32768x1024, .f32⟩
  | 62 => ⟨S32768x1024, .f32⟩
  | 63 => ⟨S1024x256, .f32⟩
  | 64 => ⟨S_, .f32⟩
  | 65 => ⟨S1024, .f32⟩
  | 66 => ⟨S1x1024, .f32⟩
  | 67 => ⟨S32768x1024, .f32⟩
  | 68 => ⟨S32768x1024, .f32⟩
  | 69 => ⟨S32768x1024, .i32⟩
  | 70 => ⟨S_, .f32⟩
  | 71 => ⟨S_, .i32⟩
  | 72 => ⟨S32768, .f32⟩
  | 73 => ⟨S32768, .i32⟩
  | 74 => ⟨S_, .i32⟩
  | 75 => ⟨S32768, .i32⟩
  | 76 => ⟨S32768, .i1⟩
  | 77 => ⟨S_, .i32⟩
  | 78 => ⟨S32768, .i32⟩
  | 79 => ⟨S32768, .i32⟩
  | 80 => ⟨S32768, .i32⟩
  | 81 => ⟨S32768x1, .i32⟩
  | 82 => ⟨S1, .i32⟩
  | 83 => ⟨S_, .i32⟩
  | 84 => ⟨S32768x1, .i32⟩
  | 85 => ⟨S32768x1, .i1⟩
  | 86 => ⟨S1x1, .i32⟩
  | 87 => ⟨S32768x1, .i32⟩
  | 88 => ⟨S32768x1, .i1⟩
  | 89 => ⟨S32768x1, .i1⟩
  | 90 => ⟨S_, .i1⟩
  | 91 => ⟨S32768, .i1⟩
  | 92 => ⟨S32768x256, .f32⟩
  | 93 => ⟨S32768x256, .i1⟩
  | 94 => ⟨S_, .f32⟩
  | 95 => ⟨S32768x256, .f32⟩
  | 96 => ⟨S32768x256, .f32⟩
  | 97 => ⟨S32768x256, .f32⟩
  | 98 => ⟨S32768x256, .f32⟩
  | 99 => ⟨S16x2048, .i32⟩
  | 100 => ⟨S1x1024x256, .f32⟩
  | 101 => ⟨S1024x256, .f32⟩
  | 102 => ⟨S32768x256, .f32⟩
  | 103 => ⟨S_, .f32⟩
  | 104 => ⟨S32768, .f32⟩
  | 105 => ⟨S32768x1, .f32⟩
  | 106 => ⟨S256x1024, .f32⟩
  | 107 => ⟨S32768x1024, .f32⟩
  | 108 => ⟨S_, .f32⟩
  | 109 => ⟨S32768x1024, .f32⟩
  | 110 => ⟨S32768x1024, .f32⟩
  | 111 => ⟨S32768x1024, .f32⟩
  | 112 => ⟨S32768x1024, .f32⟩
  | 113 => ⟨S1024x256, .f32⟩
  | 114 => ⟨S_, .f32⟩
  | 115 => ⟨S1024, .f32⟩
  | 116 => ⟨S1x1024, .f32⟩
  | 117 => ⟨S32768x1024, .f32⟩
  | 118 => ⟨S32768x1024, .f32⟩
  | 119 => ⟨S32768x1024, .i32⟩
  | 120 => ⟨S_, .f32⟩
  | 121 => ⟨S_, .i32⟩
  | 122 => ⟨S32768, .f32⟩
  | 123 => ⟨S32768, .i32⟩
  | 124 => ⟨S_, .i32⟩
  | 125 => ⟨S32768, .i32⟩
  | 126 => ⟨S32768, .i1⟩
  | 127 => ⟨S_, .i32⟩
  | _ => ⟨S16x256x2048, .f32⟩

abbrev hbmTy0_3 (i : Nat) : BufTy := match i % 128 with
  | 0 => ⟨S32768, .i32⟩
  | 1 => ⟨S32768, .i32⟩
  | 2 => ⟨S32768, .i32⟩
  | 3 => ⟨S32768x1, .i32⟩
  | 4 => ⟨S1, .i32⟩
  | 5 => ⟨S_, .i32⟩
  | 6 => ⟨S32768x1, .i32⟩
  | 7 => ⟨S32768x1, .i1⟩
  | 8 => ⟨S1x1, .i32⟩
  | 9 => ⟨S32768x1, .i32⟩
  | 10 => ⟨S32768x1, .i1⟩
  | 11 => ⟨S32768x1, .i1⟩
  | 12 => ⟨S_, .i1⟩
  | 13 => ⟨S32768, .i1⟩
  | 14 => ⟨S32768x256, .f32⟩
  | 15 => ⟨S32768x256, .i1⟩
  | 16 => ⟨S_, .f32⟩
  | 17 => ⟨S32768x256, .f32⟩
  | 18 => ⟨S32768x256, .f32⟩
  | 19 => ⟨S32768x256, .f32⟩
  | 20 => ⟨S32768x256, .f32⟩
  | 21 => ⟨S16x2048, .i32⟩
  | 22 => ⟨S1x16x2048, .i32⟩
  | 23 => ⟨S1x16x2048, .i32⟩
  | 24 => ⟨S1x16x2048, .i32⟩
  | 25 => ⟨S1x16x2048, .i32⟩
  | 26 => ⟨S1x16x2048, .i32⟩
  | 27 => ⟨S1x16x2048, .i32⟩
  | 28 => ⟨S1x16x2048, .i32⟩
  | 29 => ⟨S1x16x2048, .i32⟩
  | 30 => ⟨S8x16x2048, .i32⟩
  | 31 => ⟨S16x2048x256, .f32⟩
  | 32 => ⟨S16x256x2048, .f32⟩
  | _ => ⟨S16x256x2048, .f32⟩

abbrev hbmTy (i : Nat) : BufTy := match i / 128 with
  | 0 => hbmTy0_0 i
  | 1 => hbmTy0_1 i
  | 2 => hbmTy0_2 i
  | 3 => hbmTy0_3 i
  | _ => ⟨S16x256x2048, .f32⟩

abbrev bufTy : (tb : Table) → Fin (tcTables nBuf tb) → BufTy
  | .hbm, ⟨i, _⟩ => hbmTy i
  | _, _ => ⟨S16x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_v0 : Ref sig .tc := ⟨.hbm, 25, rfl⟩
abbrev main_call0_cst : Ref sig .tc := ⟨.hbm, 26, rfl⟩
abbrev main_call0_c : Ref sig .tc := ⟨.hbm, 27, rfl⟩
abbrev main_call0_v1_0 : Ref sig .tc := ⟨.hbm, 28, rfl⟩
abbrev main_v19 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_cst_3 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_cst_4 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_cst_5 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_call2_v0 : Ref sig .tc := ⟨.hbm, 75, rfl⟩
abbrev main_call2_cst : Ref sig .tc := ⟨.hbm, 76, rfl⟩
abbrev main_call2_c : Ref sig .tc := ⟨.hbm, 77, rfl⟩
abbrev main_call2_v1_0 : Ref sig .tc := ⟨.hbm, 78, rfl⟩
abbrev main_v40 : Ref sig .tc := ⟨.hbm, 79, rfl⟩
abbrev main_call3_c : Ref sig .tc := ⟨.hbm, 80, rfl⟩
abbrev main_call3_v0 : Ref sig .tc := ⟨.hbm, 81, rfl⟩
abbrev main_call3_v1 : Ref sig .tc := ⟨.hbm, 82, rfl⟩
abbrev main_call3_c_0 : Ref sig .tc := ⟨.hbm, 83, rfl⟩
abbrev main_call3_v2 : Ref sig .tc := ⟨.hbm, 84, rfl⟩
abbrev main_call3_v3 : Ref sig .tc := ⟨.hbm, 85, rfl⟩
abbrev main_call3_v4 : Ref sig .tc := ⟨.hbm, 86, rfl⟩
abbrev main_call3_v5 : Ref sig .tc := ⟨.hbm, 87, rfl⟩
abbrev main_call3_c_1 : Ref sig .tc := ⟨.hbm, 88, rfl⟩
abbrev main_call3_c_2 : Ref sig .tc := ⟨.hbm, 89, rfl⟩
abbrev main_call3_v6 : Ref sig .tc := ⟨.hbm, 90, rfl⟩
abbrev main_call3_v7 : Ref sig .tc := ⟨.hbm, 91, rfl⟩
abbrev main_call3_v8 : Ref sig .tc := ⟨.hbm, 92, rfl⟩
abbrev main_call3_v9 : Ref sig .tc := ⟨.hbm, 93, rfl⟩
abbrev main_call3_v10 : Ref sig .tc := ⟨.hbm, 94, rfl⟩
abbrev main_call3_v11 : Ref sig .tc := ⟨.hbm, 95, rfl⟩
abbrev main_call3_c_3 : Ref sig .tc := ⟨.hbm, 96, rfl⟩
abbrev main_call3_v12 : Ref sig .tc := ⟨.hbm, 97, rfl⟩
abbrev main_call3_v13 : Ref sig .tc := ⟨.hbm, 98, rfl⟩
abbrev main_call3_v14 : Ref sig .tc := ⟨.hbm, 99, rfl⟩
abbrev main_call3_cst : Ref sig .tc := ⟨.hbm, 100, rfl⟩
abbrev main_call3_v15 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_cst_6 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_cst_7 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_cst_8 : Ref sig .tc := ⟨.hbm, 120, rfl⟩
abbrev main_v57 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_call4_v0 : Ref sig .tc := ⟨.hbm, 125, rfl⟩
abbrev main_call4_cst : Ref sig .tc := ⟨.hbm, 126, rfl⟩
abbrev main_call4_c : Ref sig .tc := ⟨.hbm, 127, rfl⟩
abbrev main_call4_v1_0 : Ref sig .tc := ⟨.hbm, 128, rfl⟩
abbrev main_v61 : Ref sig .tc := ⟨.hbm, 129, rfl⟩
abbrev main_call5_c : Ref sig .tc := ⟨.hbm, 130, rfl⟩
abbrev main_call5_v0 : Ref sig .tc := ⟨.hbm, 131, rfl⟩
abbrev main_call5_v1 : Ref sig .tc := ⟨.hbm, 132, rfl⟩
abbrev main_call5_c_0 : Ref sig .tc := ⟨.hbm, 133, rfl⟩
abbrev main_call5_v2 : Ref sig .tc := ⟨.hbm, 134, rfl⟩
abbrev main_call5_v3 : Ref sig .tc := ⟨.hbm, 135, rfl⟩
abbrev main_call5_v4 : Ref sig .tc := ⟨.hbm, 136, rfl⟩
abbrev main_call5_v5 : Ref sig .tc := ⟨.hbm, 137, rfl⟩
abbrev main_call5_c_1 : Ref sig .tc := ⟨.hbm, 138, rfl⟩
abbrev main_call5_c_2 : Ref sig .tc := ⟨.hbm, 139, rfl⟩
abbrev main_call5_v6 : Ref sig .tc := ⟨.hbm, 140, rfl⟩
abbrev main_call5_v7 : Ref sig .tc := ⟨.hbm, 141, rfl⟩
abbrev main_call5_v8 : Ref sig .tc := ⟨.hbm, 142, rfl⟩
abbrev main_call5_v9 : Ref sig .tc := ⟨.hbm, 143, rfl⟩
abbrev main_call5_v10 : Ref sig .tc := ⟨.hbm, 144, rfl⟩
abbrev main_call5_v11 : Ref sig .tc := ⟨.hbm, 145, rfl⟩
abbrev main_call5_c_3 : Ref sig .tc := ⟨.hbm, 146, rfl⟩
abbrev main_call5_v12 : Ref sig .tc := ⟨.hbm, 147, rfl⟩
abbrev main_call5_v13 : Ref sig .tc := ⟨.hbm, 148, rfl⟩
abbrev main_call5_v14 : Ref sig .tc := ⟨.hbm, 149, rfl⟩
abbrev main_call5_cst : Ref sig .tc := ⟨.hbm, 150, rfl⟩
abbrev main_call5_v15 : Ref sig .tc := ⟨.hbm, 151, rfl⟩
abbrev main_v62 : Ref sig .tc := ⟨.hbm, 152, rfl⟩
abbrev main_v63 : Ref sig .tc := ⟨.hbm, 153, rfl⟩
abbrev main_v64 : Ref sig .tc := ⟨.hbm, 154, rfl⟩
abbrev main_v65 : Ref sig .tc := ⟨.hbm, 155, rfl⟩
abbrev main_v66 : Ref sig .tc := ⟨.hbm, 156, rfl⟩
abbrev main_v67 : Ref sig .tc := ⟨.hbm, 157, rfl⟩
abbrev main_v68 : Ref sig .tc := ⟨.hbm, 158, rfl⟩
abbrev main_cst_9 : Ref sig .tc := ⟨.hbm, 159, rfl⟩
abbrev main_v69 : Ref sig .tc := ⟨.hbm, 160, rfl⟩
abbrev main_v70 : Ref sig .tc := ⟨.hbm, 161, rfl⟩
abbrev main_v71 : Ref sig .tc := ⟨.hbm, 162, rfl⟩
abbrev main_v72 : Ref sig .tc := ⟨.hbm, 163, rfl⟩
abbrev main_cst_10 : Ref sig .tc := ⟨.hbm, 164, rfl⟩
abbrev main_v73 : Ref sig .tc := ⟨.hbm, 165, rfl⟩
abbrev main_v74 : Ref sig .tc := ⟨.hbm, 166, rfl⟩
abbrev main_v75 : Ref sig .tc := ⟨.hbm, 167, rfl⟩
abbrev main_v76 : Ref sig .tc := ⟨.hbm, 168, rfl⟩
abbrev main_v77 : Ref sig .tc := ⟨.hbm, 169, rfl⟩
abbrev main_cst_11 : Ref sig .tc := ⟨.hbm, 170, rfl⟩
abbrev main_v78 : Ref sig .tc := ⟨.hbm, 171, rfl⟩
abbrev main_v79 : Ref sig .tc := ⟨.hbm, 172, rfl⟩
abbrev main_v80 : Ref sig .tc := ⟨.hbm, 173, rfl⟩
abbrev main_v81 : Ref sig .tc := ⟨.hbm, 174, rfl⟩
abbrev main_call6_v0 : Ref sig .tc := ⟨.hbm, 175, rfl⟩
abbrev main_call6_cst : Ref sig .tc := ⟨.hbm, 176, rfl⟩
abbrev main_call6_c : Ref sig .tc := ⟨.hbm, 177, rfl⟩
abbrev main_call6_v1_0 : Ref sig .tc := ⟨.hbm, 178, rfl⟩
abbrev main_v82 : Ref sig .tc := ⟨.hbm, 179, rfl⟩
abbrev main_call7_c : Ref sig .tc := ⟨.hbm, 180, rfl⟩
abbrev main_call7_v0 : Ref sig .tc := ⟨.hbm, 181, rfl⟩
abbrev main_call7_v1 : Ref sig .tc := ⟨.hbm, 182, rfl⟩
abbrev main_call7_c_0 : Ref sig .tc := ⟨.hbm, 183, rfl⟩
abbrev main_call7_v2 : Ref sig .tc := ⟨.hbm, 184, rfl⟩
abbrev main_call7_v3 : Ref sig .tc := ⟨.hbm, 185, rfl⟩
abbrev main_call7_v4 : Ref sig .tc := ⟨.hbm, 186, rfl⟩
abbrev main_call7_v5 : Ref sig .tc := ⟨.hbm, 187, rfl⟩
abbrev main_call7_c_1 : Ref sig .tc := ⟨.hbm, 188, rfl⟩
abbrev main_call7_c_2 : Ref sig .tc := ⟨.hbm, 189, rfl⟩
abbrev main_call7_v6 : Ref sig .tc := ⟨.hbm, 190, rfl⟩
abbrev main_call7_v7 : Ref sig .tc := ⟨.hbm, 191, rfl⟩
abbrev main_call7_v8 : Ref sig .tc := ⟨.hbm, 192, rfl⟩
abbrev main_call7_v9 : Ref sig .tc := ⟨.hbm, 193, rfl⟩
abbrev main_call7_v10 : Ref sig .tc := ⟨.hbm, 194, rfl⟩
abbrev main_call7_v11 : Ref sig .tc := ⟨.hbm, 195, rfl⟩
abbrev main_call7_c_3 : Ref sig .tc := ⟨.hbm, 196, rfl⟩
abbrev main_call7_v12 : Ref sig .tc := ⟨.hbm, 197, rfl⟩
abbrev main_call7_v13 : Ref sig .tc := ⟨.hbm, 198, rfl⟩
abbrev main_call7_v14 : Ref sig .tc := ⟨.hbm, 199, rfl⟩
abbrev main_call7_cst : Ref sig .tc := ⟨.hbm, 200, rfl⟩
abbrev main_call7_v15 : Ref sig .tc := ⟨.hbm, 201, rfl⟩
abbrev main_v83 : Ref sig .tc := ⟨.hbm, 202, rfl⟩
abbrev main_v84 : Ref sig .tc := ⟨.hbm, 203, rfl⟩
abbrev main_v85 : Ref sig .tc := ⟨.hbm, 204, rfl⟩
abbrev main_v86 : Ref sig .tc := ⟨.hbm, 205, rfl⟩
abbrev main_v87 : Ref sig .tc := ⟨.hbm, 206, rfl⟩
abbrev main_v88 : Ref sig .tc := ⟨.hbm, 207, rfl⟩
abbrev main_v89 : Ref sig .tc := ⟨.hbm, 208, rfl⟩
abbrev main_cst_12 : Ref sig .tc := ⟨.hbm, 209, rfl⟩
abbrev main_v90 : Ref sig .tc := ⟨.hbm, 210, rfl⟩
abbrev main_v91 : Ref sig .tc := ⟨.hbm, 211, rfl⟩
abbrev main_v92 : Ref sig .tc := ⟨.hbm, 212, rfl⟩
abbrev main_v93 : Ref sig .tc := ⟨.hbm, 213, rfl⟩
abbrev main_cst_13 : Ref sig .tc := ⟨.hbm, 214, rfl⟩
abbrev main_v94 : Ref sig .tc := ⟨.hbm, 215, rfl⟩
abbrev main_v95 : Ref sig .tc := ⟨.hbm, 216, rfl⟩
abbrev main_v96 : Ref sig .tc := ⟨.hbm, 217, rfl⟩
abbrev main_v97 : Ref sig .tc := ⟨.hbm, 218, rfl⟩
abbrev main_v98 : Ref sig .tc := ⟨.hbm, 219, rfl⟩
abbrev main_cst_14 : Ref sig .tc := ⟨.hbm, 220, rfl⟩
abbrev main_v99 : Ref sig .tc := ⟨.hbm, 221, rfl⟩
abbrev main_v100 : Ref sig .tc := ⟨.hbm, 222, rfl⟩
abbrev main_v101 : Ref sig .tc := ⟨.hbm, 223, rfl⟩
abbrev main_v102 : Ref sig .tc := ⟨.hbm, 224, rfl⟩
abbrev main_call8_v0 : Ref sig .tc := ⟨.hbm, 225, rfl⟩
abbrev main_call8_cst : Ref sig .tc := ⟨.hbm, 226, rfl⟩
abbrev main_call8_c : Ref sig .tc := ⟨.hbm, 227, rfl⟩
abbrev main_call8_v1_0 : Ref sig .tc := ⟨.hbm, 228, rfl⟩
abbrev main_v103 : Ref sig .tc := ⟨.hbm, 229, rfl⟩
abbrev main_call9_c : Ref sig .tc := ⟨.hbm, 230, rfl⟩
abbrev main_call9_v0 : Ref sig .tc := ⟨.hbm, 231, rfl⟩
abbrev main_call9_v1 : Ref sig .tc := ⟨.hbm, 232, rfl⟩
abbrev main_call9_c_0 : Ref sig .tc := ⟨.hbm, 233, rfl⟩
abbrev main_call9_v2 : Ref sig .tc := ⟨.hbm, 234, rfl⟩
abbrev main_call9_v3 : Ref sig .tc := ⟨.hbm, 235, rfl⟩
abbrev main_call9_v4 : Ref sig .tc := ⟨.hbm, 236, rfl⟩
abbrev main_call9_v5 : Ref sig .tc := ⟨.hbm, 237, rfl⟩
abbrev main_call9_c_1 : Ref sig .tc := ⟨.hbm, 238, rfl⟩
abbrev main_call9_c_2 : Ref sig .tc := ⟨.hbm, 239, rfl⟩
abbrev main_call9_v6 : Ref sig .tc := ⟨.hbm, 240, rfl⟩
abbrev main_call9_v7 : Ref sig .tc := ⟨.hbm, 241, rfl⟩
abbrev main_call9_v8 : Ref sig .tc := ⟨.hbm, 242, rfl⟩
abbrev main_call9_v9 : Ref sig .tc := ⟨.hbm, 243, rfl⟩
abbrev main_call9_v10 : Ref sig .tc := ⟨.hbm, 244, rfl⟩
abbrev main_call9_v11 : Ref sig .tc := ⟨.hbm, 245, rfl⟩
abbrev main_call9_c_3 : Ref sig .tc := ⟨.hbm, 246, rfl⟩
abbrev main_call9_v12 : Ref sig .tc := ⟨.hbm, 247, rfl⟩
abbrev main_call9_v13 : Ref sig .tc := ⟨.hbm, 248, rfl⟩
abbrev main_call9_v14 : Ref sig .tc := ⟨.hbm, 249, rfl⟩
abbrev main_call9_cst : Ref sig .tc := ⟨.hbm, 250, rfl⟩
abbrev main_call9_v15 : Ref sig .tc := ⟨.hbm, 251, rfl⟩
abbrev main_v104 : Ref sig .tc := ⟨.hbm, 252, rfl⟩
abbrev main_v105 : Ref sig .tc := ⟨.hbm, 253, rfl⟩
abbrev main_v106 : Ref sig .tc := ⟨.hbm, 254, rfl⟩
abbrev main_v107 : Ref sig .tc := ⟨.hbm, 255, rfl⟩
abbrev main_v108 : Ref sig .tc := ⟨.hbm, 256, rfl⟩
abbrev main_v109 : Ref sig .tc := ⟨.hbm, 257, rfl⟩
abbrev main_v110 : Ref sig .tc := ⟨.hbm, 258, rfl⟩
abbrev main_cst_15 : Ref sig .tc := ⟨.hbm, 259, rfl⟩
abbrev main_v111 : Ref sig .tc := ⟨.hbm, 260, rfl⟩
abbrev main_v112 : Ref sig .tc := ⟨.hbm, 261, rfl⟩
abbrev main_v113 : Ref sig .tc := ⟨.hbm, 262, rfl⟩
abbrev main_v114 : Ref sig .tc := ⟨.hbm, 263, rfl⟩
abbrev main_cst_16 : Ref sig .tc := ⟨.hbm, 264, rfl⟩
abbrev main_v115 : Ref sig .tc := ⟨.hbm, 265, rfl⟩
abbrev main_v116 : Ref sig .tc := ⟨.hbm, 266, rfl⟩
abbrev main_v117 : Ref sig .tc := ⟨.hbm, 267, rfl⟩
abbrev main_v118 : Ref sig .tc := ⟨.hbm, 268, rfl⟩
abbrev main_v119 : Ref sig .tc := ⟨.hbm, 269, rfl⟩
abbrev main_cst_17 : Ref sig .tc := ⟨.hbm, 270, rfl⟩
abbrev main_v120 : Ref sig .tc := ⟨.hbm, 271, rfl⟩
abbrev main_v121 : Ref sig .tc := ⟨.hbm, 272, rfl⟩
abbrev main_v122 : Ref sig .tc := ⟨.hbm, 273, rfl⟩
abbrev main_v123 : Ref sig .tc := ⟨.hbm, 274, rfl⟩
abbrev main_call10_v0 : Ref sig .tc := ⟨.hbm, 275, rfl⟩
abbrev main_call10_cst : Ref sig .tc := ⟨.hbm, 276, rfl⟩
abbrev main_call10_c : Ref sig .tc := ⟨.hbm, 277, rfl⟩
abbrev main_call10_v1_0 : Ref sig .tc := ⟨.hbm, 278, rfl⟩
abbrev main_v124 : Ref sig .tc := ⟨.hbm, 279, rfl⟩
abbrev main_call11_c : Ref sig .tc := ⟨.hbm, 280, rfl⟩
abbrev main_call11_v0 : Ref sig .tc := ⟨.hbm, 281, rfl⟩
abbrev main_call11_v1 : Ref sig .tc := ⟨.hbm, 282, rfl⟩
abbrev main_call11_c_0 : Ref sig .tc := ⟨.hbm, 283, rfl⟩
abbrev main_call11_v2 : Ref sig .tc := ⟨.hbm, 284, rfl⟩
abbrev main_call11_v3 : Ref sig .tc := ⟨.hbm, 285, rfl⟩
abbrev main_call11_v4 : Ref sig .tc := ⟨.hbm, 286, rfl⟩
abbrev main_call11_v5 : Ref sig .tc := ⟨.hbm, 287, rfl⟩
abbrev main_call11_c_1 : Ref sig .tc := ⟨.hbm, 288, rfl⟩
abbrev main_call11_c_2 : Ref sig .tc := ⟨.hbm, 289, rfl⟩
abbrev main_call11_v6 : Ref sig .tc := ⟨.hbm, 290, rfl⟩
abbrev main_call11_v7 : Ref sig .tc := ⟨.hbm, 291, rfl⟩
abbrev main_call11_v8 : Ref sig .tc := ⟨.hbm, 292, rfl⟩
abbrev main_call11_v9 : Ref sig .tc := ⟨.hbm, 293, rfl⟩
abbrev main_call11_v10 : Ref sig .tc := ⟨.hbm, 294, rfl⟩
abbrev main_call11_v11 : Ref sig .tc := ⟨.hbm, 295, rfl⟩
abbrev main_call11_c_3 : Ref sig .tc := ⟨.hbm, 296, rfl⟩
abbrev main_call11_v12 : Ref sig .tc := ⟨.hbm, 297, rfl⟩
abbrev main_call11_v13 : Ref sig .tc := ⟨.hbm, 298, rfl⟩
abbrev main_call11_v14 : Ref sig .tc := ⟨.hbm, 299, rfl⟩
abbrev main_call11_cst : Ref sig .tc := ⟨.hbm, 300, rfl⟩
abbrev main_call11_v15 : Ref sig .tc := ⟨.hbm, 301, rfl⟩
abbrev main_v125 : Ref sig .tc := ⟨.hbm, 302, rfl⟩
abbrev main_v126 : Ref sig .tc := ⟨.hbm, 303, rfl⟩
abbrev main_v127 : Ref sig .tc := ⟨.hbm, 304, rfl⟩
abbrev main_v128 : Ref sig .tc := ⟨.hbm, 305, rfl⟩
abbrev main_v129 : Ref sig .tc := ⟨.hbm, 306, rfl⟩
abbrev main_v130 : Ref sig .tc := ⟨.hbm, 307, rfl⟩
abbrev main_v131 : Ref sig .tc := ⟨.hbm, 308, rfl⟩
abbrev main_cst_18 : Ref sig .tc := ⟨.hbm, 309, rfl⟩
abbrev main_v132 : Ref sig .tc := ⟨.hbm, 310, rfl⟩
abbrev main_v133 : Ref sig .tc := ⟨.hbm, 311, rfl⟩
abbrev main_v134 : Ref sig .tc := ⟨.hbm, 312, rfl⟩
abbrev main_v135 : Ref sig .tc := ⟨.hbm, 313, rfl⟩
abbrev main_cst_19 : Ref sig .tc := ⟨.hbm, 314, rfl⟩
abbrev main_v136 : Ref sig .tc := ⟨.hbm, 315, rfl⟩
abbrev main_v137 : Ref sig .tc := ⟨.hbm, 316, rfl⟩
abbrev main_v138 : Ref sig .tc := ⟨.hbm, 317, rfl⟩
abbrev main_v139 : Ref sig .tc := ⟨.hbm, 318, rfl⟩
abbrev main_v140 : Ref sig .tc := ⟨.hbm, 319, rfl⟩
abbrev main_cst_20 : Ref sig .tc := ⟨.hbm, 320, rfl⟩
abbrev main_v141 : Ref sig .tc := ⟨.hbm, 321, rfl⟩
abbrev main_v142 : Ref sig .tc := ⟨.hbm, 322, rfl⟩
abbrev main_v143 : Ref sig .tc := ⟨.hbm, 323, rfl⟩
abbrev main_v144 : Ref sig .tc := ⟨.hbm, 324, rfl⟩
abbrev main_call12_v0 : Ref sig .tc := ⟨.hbm, 325, rfl⟩
abbrev main_call12_cst : Ref sig .tc := ⟨.hbm, 326, rfl⟩
abbrev main_call12_c : Ref sig .tc := ⟨.hbm, 327, rfl⟩
abbrev main_call12_v1_0 : Ref sig .tc := ⟨.hbm, 328, rfl⟩
abbrev main_v145 : Ref sig .tc := ⟨.hbm, 329, rfl⟩
abbrev main_call13_c : Ref sig .tc := ⟨.hbm, 330, rfl⟩
abbrev main_call13_v0 : Ref sig .tc := ⟨.hbm, 331, rfl⟩
abbrev main_call13_v1 : Ref sig .tc := ⟨.hbm, 332, rfl⟩
abbrev main_call13_c_0 : Ref sig .tc := ⟨.hbm, 333, rfl⟩
abbrev main_call13_v2 : Ref sig .tc := ⟨.hbm, 334, rfl⟩
abbrev main_call13_v3 : Ref sig .tc := ⟨.hbm, 335, rfl⟩
abbrev main_call13_v4 : Ref sig .tc := ⟨.hbm, 336, rfl⟩
abbrev main_call13_v5 : Ref sig .tc := ⟨.hbm, 337, rfl⟩
abbrev main_call13_c_1 : Ref sig .tc := ⟨.hbm, 338, rfl⟩
abbrev main_call13_c_2 : Ref sig .tc := ⟨.hbm, 339, rfl⟩
abbrev main_call13_v6 : Ref sig .tc := ⟨.hbm, 340, rfl⟩
abbrev main_call13_v7 : Ref sig .tc := ⟨.hbm, 341, rfl⟩
abbrev main_call13_v8 : Ref sig .tc := ⟨.hbm, 342, rfl⟩
abbrev main_call13_v9 : Ref sig .tc := ⟨.hbm, 343, rfl⟩
abbrev main_call13_v10 : Ref sig .tc := ⟨.hbm, 344, rfl⟩
abbrev main_call13_v11 : Ref sig .tc := ⟨.hbm, 345, rfl⟩
abbrev main_call13_c_3 : Ref sig .tc := ⟨.hbm, 346, rfl⟩
abbrev main_call13_v12 : Ref sig .tc := ⟨.hbm, 347, rfl⟩
abbrev main_call13_v13 : Ref sig .tc := ⟨.hbm, 348, rfl⟩
abbrev main_call13_v14 : Ref sig .tc := ⟨.hbm, 349, rfl⟩
abbrev main_call13_cst : Ref sig .tc := ⟨.hbm, 350, rfl⟩
abbrev main_call13_v15 : Ref sig .tc := ⟨.hbm, 351, rfl⟩
abbrev main_v146 : Ref sig .tc := ⟨.hbm, 352, rfl⟩
abbrev main_v147 : Ref sig .tc := ⟨.hbm, 353, rfl⟩
abbrev main_v148 : Ref sig .tc := ⟨.hbm, 354, rfl⟩
abbrev main_v149 : Ref sig .tc := ⟨.hbm, 355, rfl⟩
abbrev main_v150 : Ref sig .tc := ⟨.hbm, 356, rfl⟩
abbrev main_v151 : Ref sig .tc := ⟨.hbm, 357, rfl⟩
abbrev main_v152 : Ref sig .tc := ⟨.hbm, 358, rfl⟩
abbrev main_cst_21 : Ref sig .tc := ⟨.hbm, 359, rfl⟩
abbrev main_v153 : Ref sig .tc := ⟨.hbm, 360, rfl⟩
abbrev main_v154 : Ref sig .tc := ⟨.hbm, 361, rfl⟩
abbrev main_v155 : Ref sig .tc := ⟨.hbm, 362, rfl⟩
abbrev main_v156 : Ref sig .tc := ⟨.hbm, 363, rfl⟩
abbrev main_cst_22 : Ref sig .tc := ⟨.hbm, 364, rfl⟩
abbrev main_v157 : Ref sig .tc := ⟨.hbm, 365, rfl⟩
abbrev main_v158 : Ref sig .tc := ⟨.hbm, 366, rfl⟩
abbrev main_v159 : Ref sig .tc := ⟨.hbm, 367, rfl⟩
abbrev main_v160 : Ref sig .tc := ⟨.hbm, 368, rfl⟩
abbrev main_v161 : Ref sig .tc := ⟨.hbm, 369, rfl⟩
abbrev main_cst_23 : Ref sig .tc := ⟨.hbm, 370, rfl⟩
abbrev main_v162 : Ref sig .tc := ⟨.hbm, 371, rfl⟩
abbrev main_v163 : Ref sig .tc := ⟨.hbm, 372, rfl⟩
abbrev main_v164 : Ref sig .tc := ⟨.hbm, 373, rfl⟩
abbrev main_v165 : Ref sig .tc := ⟨.hbm, 374, rfl⟩
abbrev main_call14_v0 : Ref sig .tc := ⟨.hbm, 375, rfl⟩
abbrev main_call14_cst : Ref sig .tc := ⟨.hbm, 376, rfl⟩
abbrev main_call14_c : Ref sig .tc := ⟨.hbm, 377, rfl⟩
abbrev main_call14_v1_0 : Ref sig .tc := ⟨.hbm, 378, rfl⟩
abbrev main_v166 : Ref sig .tc := ⟨.hbm, 379, rfl⟩
abbrev main_call15_c : Ref sig .tc := ⟨.hbm, 380, rfl⟩
abbrev main_call15_v0 : Ref sig .tc := ⟨.hbm, 381, rfl⟩
abbrev main_call15_v1 : Ref sig .tc := ⟨.hbm, 382, rfl⟩
abbrev main_call15_c_0 : Ref sig .tc := ⟨.hbm, 383, rfl⟩
abbrev main_call15_v2 : Ref sig .tc := ⟨.hbm, 384, rfl⟩
abbrev main_call15_v3 : Ref sig .tc := ⟨.hbm, 385, rfl⟩
abbrev main_call15_v4 : Ref sig .tc := ⟨.hbm, 386, rfl⟩
abbrev main_call15_v5 : Ref sig .tc := ⟨.hbm, 387, rfl⟩
abbrev main_call15_c_1 : Ref sig .tc := ⟨.hbm, 388, rfl⟩
abbrev main_call15_c_2 : Ref sig .tc := ⟨.hbm, 389, rfl⟩
abbrev main_call15_v6 : Ref sig .tc := ⟨.hbm, 390, rfl⟩
abbrev main_call15_v7 : Ref sig .tc := ⟨.hbm, 391, rfl⟩
abbrev main_call15_v8 : Ref sig .tc := ⟨.hbm, 392, rfl⟩
abbrev main_call15_v9 : Ref sig .tc := ⟨.hbm, 393, rfl⟩
abbrev main_call15_v10 : Ref sig .tc := ⟨.hbm, 394, rfl⟩
abbrev main_call15_v11 : Ref sig .tc := ⟨.hbm, 395, rfl⟩
abbrev main_call15_c_3 : Ref sig .tc := ⟨.hbm, 396, rfl⟩
abbrev main_call15_v12 : Ref sig .tc := ⟨.hbm, 397, rfl⟩
abbrev main_call15_v13 : Ref sig .tc := ⟨.hbm, 398, rfl⟩
abbrev main_call15_v14 : Ref sig .tc := ⟨.hbm, 399, rfl⟩
abbrev main_call15_cst : Ref sig .tc := ⟨.hbm, 400, rfl⟩
abbrev main_call15_v15 : Ref sig .tc := ⟨.hbm, 401, rfl⟩
abbrev main_v167 : Ref sig .tc := ⟨.hbm, 402, rfl⟩
abbrev main_v168 : Ref sig .tc := ⟨.hbm, 403, rfl⟩
abbrev main_v169 : Ref sig .tc := ⟨.hbm, 404, rfl⟩
abbrev main_v170 : Ref sig .tc := ⟨.hbm, 405, rfl⟩
abbrev main_v171 : Ref sig .tc := ⟨.hbm, 406, rfl⟩
abbrev main_v172 : Ref sig .tc := ⟨.hbm, 407, rfl⟩
abbrev main_v173 : Ref sig .tc := ⟨.hbm, 408, rfl⟩
abbrev main_v174 : Ref sig .tc := ⟨.hbm, 409, rfl⟩
abbrev main_v175 : Ref sig .tc := ⟨.hbm, 410, rfl⟩
abbrev main_v176 : Ref sig .tc := ⟨.hbm, 411, rfl⟩
abbrev main_v177 : Ref sig .tc := ⟨.hbm, 412, rfl⟩
abbrev main_v178 : Ref sig .tc := ⟨.hbm, 413, rfl⟩
abbrev main_v179 : Ref sig .tc := ⟨.hbm, 414, rfl⟩
abbrev main_v180 : Ref sig .tc := ⟨.hbm, 415, rfl⟩
abbrev main_v181 : Ref sig .tc := ⟨.hbm, 416, rfl⟩

abbrev nD : Nat := 1
abbrev τ : Topo := Topo.v7x

variable {F : FTy → Type} [FloatOps F]
-- ==== Proof.Rvq.lean ====
/- Residual vector quantisation over the extended reals: the specification both programs are compared with. -/
module

public import Idealize.ShloMosaic.Lib.Pointwise

@[expose] public section

noncomputable section

open scoped BigOperators

namespace Cert.Rvq

open Idealize.ShloMosaic

/-! ## The first least entry of a row -/

/-- `k` is the first place at which `x` is least. -/
def IsFirst (x : Fin 1024 → EReal) (k : Fin 1024) : Prop := ∀ j, x k < x j ∨ (x k = x j ∧ k ≤ j)

/-- Every row has a first least place. -/
theorem exists_first (x : Fin 1024 → EReal) : ∃ k, IsFirst x k := by
  obtain ⟨k, -, hk⟩ := Finset.exists_min_image (Finset.univ : Finset (Fin 1024)) (fun k => toLex (x k, k)) ⟨0, Finset.mem_univ _⟩
  exact ⟨k, fun j => Prod.Lex.le_iff.mp (hk j (Finset.mem_univ j))⟩

/-- The first least place of a row. -/
def amin (x : Fin 1024 → EReal) : Fin 1024 := (exists_first x).choose

/-- It is the first least place. -/
theorem amin_spec (x : Fin 1024 → EReal) : IsFirst x (amin x) := (exists_first x).choose_spec

/-- There is only one. -/
theorem IsFirst.unique {x : Fin 1024 → EReal} {k l : Fin 1024} (hk : IsFirst x k) (hl : IsFirst x l) : k = l := by
  rcases hk l with h | ⟨h, h'⟩
  · rcases hl k with g | ⟨g, -⟩
    · exact absurd h (not_lt.mpr g.le)
    · exact absurd h (g ▸ lt_irrefl _)
  · rcases hl k with g | ⟨-, g'⟩
    · exact absurd g (h ▸ lt_irrefl _)
    · exact le_antisymm h' g'

/-- A first least place is the one chosen. -/
theorem IsFirst.eq_amin {x : Fin 1024 → EReal} {k : Fin 1024} (h : IsFirst x k) : k = amin x := h.unique (amin_spec x)

/-- Its entry is at most every other. -/
theorem amin_le (x : Fin 1024 → EReal) (j : Fin 1024) : x (amin x) ≤ x j := by
  rcases amin_spec x j with h | h
  · exact h.le
  · exact h.1.le

/-- The least entry is the entry at the first least place. -/
theorem fold_min (x : Fin 1024 → EReal) : Finset.univ.fold min ⊤ x = x (amin x) := by
  apply le_antisymm
  · exact (Finset.le_fold_min _).mp le_rfl |>.2 _ (Finset.mem_univ _)
  · exact (Finset.le_fold_min _).mpr ⟨le_top, fun j _ => amin_le x j⟩

/-! ## The first least place by a fold over pairs -/

/-- The order of pairs of a value and a place: the lesser value first, then the lesser place. -/
def Before (a b : EReal × BitVec 32) : Prop := a.1 < b.1 ∨ (a.1 = b.1 ∧ a.2.toInt ≤ b.2.toInt)

/-- The order holds of a pair and itself. -/
theorem Before.refl (a : EReal × BitVec 32) : Before a a := .inr ⟨rfl, le_rfl⟩

/-- The order is transitive. -/
theorem Before.trans {a b c : EReal × BitVec 32} (h : Before a b) (g : Before b c) : Before a c := by
  rcases h with h | ⟨h, h'⟩ <;> rcases g with g | ⟨g, g'⟩
  · exact .inl (h.trans g)
  · exact .inl (g ▸ h)
  · exact .inl (h ▸ g)
  · exact .inr ⟨h.trans g, h'.trans g'⟩

/-- A fold that keeps the earlier of two pairs returns one of the pairs it met, and none of them is earlier. -/
theorem foldl_before (f : EReal × BitVec 32 → EReal × BitVec 32 → EReal × BitVec 32)
    (hf : ∀ a b, (f a b = a ∧ Before a b) ∨ (f a b = b ∧ Before b a)) (L : List (EReal × BitVec 32)) :
    ∀ i, L.foldl f i ∈ i :: L ∧ ∀ p ∈ i :: L, Before (L.foldl f i) p := by
  induction L with
  | nil => intro i; simp [Before.refl]
  | cons b L ih =>
    intro i
    obtain ⟨hm, hb⟩ := ih (f i b)
    have h0 : Before (L.foldl f (f i b)) (f i b) := hb _ List.mem_cons_self
    have hi : Before (f i b) i ∧ Before (f i b) b := by
      rcases hf i b with ⟨h, g⟩ | ⟨h, g⟩ <;> rw [h]
      · exact ⟨.refl _, g⟩
      · exact ⟨g, .refl _⟩
    refine ⟨?_, fun p hp => ?_⟩
    · rw [List.foldl_cons]
      rcases List.mem_cons.mp hm with h | h
      · rw [h]; rcases hf i b with ⟨h, -⟩ | ⟨h, -⟩ <;> rw [h] <;> simp
      · simp [h]
    · rw [List.foldl_cons]
      rcases List.mem_cons.mp hp with rfl | hp
      · exact h0.trans hi.1
      · rcases List.mem_cons.mp hp with rfl | hp
        · exact h0.trans hi.2
        · exact hb _ (List.mem_cons_of_mem _ hp)

/-- A place, read as a signed word, is its number. -/
theorem toInt_place (k : Fin 1024) : (BitVec.ofNat 32 k.val).toInt = (k.val : ℤ) := by
  have := k.isLt
  rw [BitVec.toInt_eq_toNat_of_lt] <;> rw [BitVec.toNat_ofNat, Nat.mod_eq_of_lt] <;> omega

/-- Such a fold over the pairs of a row's entries and places, from the greatest value at place 0, ends at the first least
    place. -/
theorem foldl_amin (f : EReal × BitVec 32 → EReal × BitVec 32 → EReal × BitVec 32)
    (hf : ∀ a b, (f a b = a ∧ Before a b) ∨ (f a b = b ∧ Before b a)) (x : Fin 1024 → EReal) (L : List (EReal × BitVec 32))
    (hL : ∀ p, p ∈ L ↔ ∃ k : Fin 1024, p = (x k, BitVec.ofNat 32 k.val)) :
    (L.foldl f (⊤, 0#32)).2 = BitVec.ofNat 32 (amin x).val := by
  obtain ⟨hm, hb⟩ := foldl_before f hf L (⊤, 0#32)
  generalize L.foldl f (⊤, 0#32) = p at hm hb
  have hk (k : Fin 1024) := hb (x k, BitVec.ofNat 32 k.val) (List.mem_cons_of_mem _ ((hL _).mpr ⟨k, rfl⟩))
  rcases List.mem_cons.mp hm with rfl | h
  · suffices h : IsFirst x 0 by rw [← h.eq_amin]; rfl
    have ht (k : Fin 1024) : x k = ⊤ := by
      rcases hk k with h | h
      · exact absurd h (not_lt.mpr le_top)
      · exact h.1.symm
    exact fun j => .inr ⟨(ht 0).trans (ht j).symm, Fin.zero_le j⟩
  · obtain ⟨k, rfl⟩ := (hL _).mp h
    suffices h : IsFirst x k by rw [← h.eq_amin]
    intro j
    rcases hk j with h | ⟨h, h'⟩
    · exact .inl h
    · refine .inr ⟨h, ?_⟩
      simp only [toInt_place] at h'
      exact Fin.le_def.mpr (by omega)

/-! ## The first least place by two reductions -/

/-- The least place among those at which the row has its least entry. -/
theorem fold_place (x : Fin 1024 → EReal) (w : Fin 1024 → BitVec 32)
    (hw : ∀ k, w k = if x k = x (amin x) then BitVec.ofNat 32 k.val else 1024#32) :
    Finset.univ.fold IntOp.minsi 2147483647#32 w = BitVec.ofNat 32 (amin x).val := by
  have hmin (a b : BitVec 32) : (IntOp.minsi a b).toInt = min a.toInt b.toInt := by
    simp only [IntOp.minsi, BitVec.slt, decide_eq_true_eq]; split_ifs <;> omega
  have key (s : Finset (Fin 1024)) : (s.fold IntOp.minsi 2147483647#32 w).toInt = s.fold min 2147483647 fun k => (w k).toInt := by
    induction s using Finset.induction_on with
    | empty => rw [Finset.fold_empty, Finset.fold_empty]; decide
    | insert a s ha ih => rw [Finset.fold_insert ha, Finset.fold_insert ha, hmin, ih]
  have hwi (k : Fin 1024) : (w k).toInt = if x k = x (amin x) then (k.val : ℤ) else 1024 := by
    rw [hw]; split_ifs
    · exact toInt_place k
    · decide
  apply BitVec.eq_of_toInt_eq
  rw [key, toInt_place]
  have hlt := (amin x).isLt
  apply le_antisymm
  · refine ((Finset.le_fold_min _).mp le_rfl |>.2 (amin x) (Finset.mem_univ _)).trans ?_
    rw [hwi, if_pos rfl]
  · refine (Finset.le_fold_min _).mpr ⟨by omega, fun k _ => ?_⟩
    rw [hwi]; split_ifs with h
    · rcases amin_spec x k with g | ⟨-, g⟩
      · exact absurd g (h ▸ lt_irrefl _)
      · exact_mod_cast g
    · omega

/-! ## A row of the codebook by a one-hot sum -/

/-- A sum against a one-hot row is the entry at its place. -/
theorem one_hot (v : Fin 1024 → EReal) (a : Fin 1024) : (∑ k, v k * (if k = a then (1 : EReal) else 0)) = v a := by
  rw [Finset.sum_eq_single a]
  · simp
  · intro b _ h; simp [h]
  · intro h; exact absurd (Finset.mem_univ _) h

/-! ## The quantiser -/

/-- One row's residual. -/
abbrev Vect := Fin 256 → EReal
/-- A codebook: 1024 rows. -/
abbrev Book := Fin 1024 → Fin 256 → EReal

/-- The squared distance of `r` to row `k` of the codebook, as `|r|² - 2 r·e + |e|²`. -/
def dist (e : Book) (r : Vect) (k : Fin 1024) : EReal :=
  ((∑ d, r d * r d) - FloatOps.ofBits (F := Ideal) .f32 0x40000000#32 * ∑ d, r d * e k d) + ∑ d, e k d * e k d

/-- The place of the nearest row, the first of several. -/
def code (e : Book) (r : Vect) : Fin 1024 := amin (dist e r)

/-- The residual after a stage. -/
def next (e : Book) (r : Vect) : Vect := fun d => r d - e (code e r) d

/-- The residual before stage `q`. -/
def res (es : ℕ → Book) (x : Vect) : ℕ → Vect
  | 0 => x
  | q + 1 => next (es q) (res es x q)

/-- The code of stage `q`. -/
def codeAt (es : ℕ → Book) (x : Vect) (q : ℕ) : Fin 1024 := code (es q) (res es x q)

/-- The sum of the rows the first `q` stages picked, from zero. -/
def total (es : ℕ → Book) (x : Vect) : ℕ → Vect
  | 0 => fun _ => 0
  | q + 1 => fun d => total es x q d + es q (codeAt es x q) d

/-- Where the row and the codebooks are finite, the residual and the total are finite and make up the row. -/
theorem res_total (es : ℕ → Book) (x : Vect) (hx : ∀ d, ∃ a : ℝ, x d = a) (he : ∀ q k d, ∃ a : ℝ, es q k d = a) (q : ℕ)
    (d : Fin 256) : ∃ a b c : ℝ, x d = a ∧ res es x q d = b ∧ total es x q d = c ∧ a - b = c := by
  induction q with
  | zero => obtain ⟨a, ha⟩ := hx d; exact ⟨a, a, 0, ha, ha, rfl, by ring⟩
  | succ q ih =>
    obtain ⟨a, b, c, ha, hb, hc, h⟩ := ih
    obtain ⟨e, h'⟩ := he q (codeAt es x q) d
    refine ⟨a, b - e, c + e, ha, ?_, ?_, by rw [← h]; ring⟩
    · change res es x q d - es q (codeAt es x q) d = _
      rw [hb, h']; rfl
    · change total es x q d + es q (codeAt es x q) d = _
      rw [hc, h']; rfl

/-- The row less its last residual is the total of the rows picked. -/
theorem sub_res (es : ℕ → Book) (x : Vect) (hx : ∀ d, ∃ a : ℝ, x d = a) (he : ∀ q k d, ∃ a : ℝ, es q k d = a) (q : ℕ)
    (d : Fin 256) : x d - res es x q d = total es x q d := by
  obtain ⟨a, b, c, ha, hb, hc, h⟩ := res_total es x hx he q d
  rw [ha, hb, hc, ← h]; rfl

end Cert.Rvq
-- ==== Proof.KStage.lean ====
/- One stage of the kernel's block, as arrays and then at an index. -/
module

public import proofs.«01_k».proof.Proof.Gen.KernelIdeal.Skeleton
public import proofs.«01_k».proof.Proof.Rvq

@[expose] public section

set_option maxRecDepth 16384

noncomputable section

namespace Cert.KStage

open Idealize.ShloMosaic
open Cert.KernelIdeal Cert.KernelIdeal.Gen

/-- The places of the rows, down each column. -/
def places : IVec S1024x1024 32 := iota .tc S1024x1024 32 [0] iota_S1024x1024_d0_w32

/-- The distances of every column of `r` to every row of the codebook `e`, `n` holding the rows' squared norms. -/
def kDist (r : FVec Ideal S256x1024 .f32) (e : FVec Ideal S1x1024x256 .f32) (n : FVec Ideal S1x1024x1 .f32) :
    FVec Ideal S1024x1024 .f32 :=
  addf
    (subf
      (broadcastTo S1024x1024
        (shapeCast S1x1024 (multiReduction .add [0] S1024 (mulf r r) 0x00000000#32 reduces_S256x1024_S1024 (.inl rfl) rfl)
          shapeCasts_S1024_S1x1024) broadcasts_S1x1024_S1024x1024)
      (mulf (broadcast S1024x1024 (Scalar.ofBits (F := Ideal) .f32 0x40000000#32))
        (matmul dot_S1024x256_S256x1024_S1024x1024_1_0_0_1_n_n none (shapeCast S1024x256 e shapeCasts_S1x1024x256_S1024x256) r
          (constant S1024x1024 .f32 0x00000000#32))))
    (broadcastTo S1024x1024 (shapeCast S1024x1 n shapeCasts_S1x1024x1_S1024x1) broadcasts_S1024x1_S1024x1024)

/-- The first place of each column's least entry, as a row. -/
def kIdx (x : FVec Ideal S1024x1024 .f32) : IVec S1x1024 32 :=
  shapeCast S1x1024
    (multiReductionI .minsi [0] S1024
      (select (cmpf .oeq x (broadcastTo S1024x1024
          (shapeCast S1x1024 (multiReduction .minimumf [0] S1024 x 0x7F800000#32 reduces_S1024x1024_S1024 (.inl rfl) rfl)
            shapeCasts_S1024_S1x1024) broadcasts_S1x1024_S1024x1024))
        places (broadcast S1024x1024 1024#32)) 2147483647#32 reduces_S1024x1024_S1024 rfl)
    shapeCasts_S1024_S1x1024

/-- The codebook's row at each column's place, taken out of the transposed codebook `t` by a product with a one-hot matrix. -/
def kRow (i : IVec S1x1024 32) (t : FVec Ideal S1x256x1024 .f32) : FVec Ideal S256x1024 .f32 :=
  matmul dot_S256x1024_S1024x1024_S256x1024_1_0_0_1_n_n none (shapeCast S256x1024 t shapeCasts_S1x256x1024_S256x1024)
    (sitofp .f32 (extui 32 (cmpi .eq places (broadcastTo S1024x1024 i broadcasts_S1x1024_S1024x1024)) natLt_1_32))
    (constant S256x1024 .f32 0x00000000#32)

/-- The distances at a row and a column. -/
theorem kDist_apply (r : FVec Ideal S256x1024 .f32) (e : FVec Ideal S1x1024x256 .f32) (n : FVec Ideal S1x1024x1 .f32)
    (k l : Fin 1024) : kDist r e n (ix2 k l)
      = ((∑ d : Fin 256, r (ix2 d l) * r (ix2 d l))
          - FloatOps.ofBits (F := Ideal) .f32 0x40000000#32 * ∑ d : Fin 256, e (ix3 0 k d) * r (ix2 d l)) + n (ix3 0 k 0) := by
  pointwise [kDist]

/-- The picked place at a column. -/
theorem kIdx_apply (x : FVec Ideal S1024x1024 .f32) (l : Fin 1024) :
    kIdx x (ix2 0 l) = BitVec.ofNat 32 (Rvq.amin fun k => x (ix2 k l)).val := by
  pointwise [kIdx, places]
  have ht : Ideal.ofBits FTy.f32 2139095040#32 = ⊤ := by simp [Ideal.ofBits, Ideal.ieee]
  refine Rvq.fold_place (fun k => x (ix2 k l)) _ fun k => ?_
  rw [ht, Rvq.fold_min fun k => x (ix2 k l)]

/-- The picked row at a column. -/
theorem kRow_apply (i : IVec S1x1024 32) (t : FVec Ideal S1x256x1024 .f32) (l : Fin 1024) (a : Fin 1024)
    (h : i (ix2 0 l) = BitVec.ofNat 32 a.val) (d : Fin 256) : kRow i t (ix2 d l) = t (ix3 0 d a) := by
  pointwise [kRow, places]
  rw [h, ← Rvq.one_hot (fun k => t (ix3 0 d k)) a]
  refine Finset.sum_congr rfl fun k _ => congrArg (t (ix3 0 d k) * ·) ?_
  have hk : (BitVec.ofNat 32 k.val = BitVec.ofNat 32 a.val) ↔ k = a := by
    rw [Fin.ext_iff, ← BitVec.toNat_inj, BitVec.toNat_ofNat, BitVec.toNat_ofNat,
      Nat.mod_eq_of_lt (by have := k.isLt; omega), Nat.mod_eq_of_lt (by have := a.isLt; omega)]
  by_cases hka : k = a
  · simp [hka, IntOp.cmpi, FloatOps.sitofp]
  · have hb : (BitVec.ofNat 32 k.val == BitVec.ofNat 32 a.val) = false := beq_eq_false_iff_ne.mpr fun e => hka (hk.mp e)
    simp [hka, hb, IntOp.cmpi, FloatOps.sitofp]

end Cert.KStage
-- ==== Proof.KBlock.lean ====
/- The kernel's block: eight stages over one block of columns, and what it leaves in the two output blocks. -/
module

public import proofs.«01_k».proof.Proof.Gen.KernelIdeal.Frame
public import proofs.«01_k».proof.Proof.KStage
public import Idealize.ShloMosaic.Lib.Pipeline.ValueKit

@[expose] public section

set_option maxRecDepth 16384

noncomputable section

namespace Cert.KStage

open Idealize.ShloMosaic
open Cert.KernelIdeal Cert.KernelIdeal.Gen

/-- The residual after a stage. -/
def kNext (r : FVec Ideal S256x1024 .f32) (e : FVec Ideal S1x1024x256 .f32) (n : FVec Ideal S1x1024x1 .f32)
    (t : FVec Ideal S1x256x1024 .f32) : FVec Ideal S256x1024 .f32 := subf r (kRow (kIdx (kDist r e n)) t)

/-- Slice `q` of the codebooks. -/
def slE (x : Vec Ideal S8x1024x256 .f32) (q : ℕ) : Vec Ideal S1x1024x256 .f32 := fun j => x (ix3 (Fin.ofNat 8 q) (j 1) (j 2))

/-- What the body loads of the codebooks at stage `q`. -/
theorem ld_E (x : Vec Ideal S8x1024x256 .f32) (q : ℕ) (h : ∀ a, ![q, 0, 0] a + S1x1024x256.size a ≤ S8x1024x256.size a) :
    View.ld (Val := Elt Ideal) x (Rect.unit (s := S8x1024x256) ![q, 0, 0] S1x1024x256.size h) = slE x q := by
  have hq : q < 8 := h 0
  funext j
  have h0 : (j 0).val = 0 := by have : (j 0).val < 1 := (j 0).isLt; omega
  refine View.ld_unit_apply_of x _ _ h j _ fun a => ?_
  fin_cases a
  · simp [h0, hq, Nat.mod_eq_of_lt]
  · simp
  · simp

/-- Slice `q` of the squared norms. -/
def slN (x : Vec Ideal S8x1024x1 .f32) (q : ℕ) : Vec Ideal S1x1024x1 .f32 := fun j => x (ix3 (Fin.ofNat 8 q) (j 1) (j 2))

/-- What it loads of the squared norms. -/
theorem ld_N (x : Vec Ideal S8x1024x1 .f32) (q : ℕ) (h : ∀ a, ![q, 0, 0] a + S1x1024x1.size a ≤ S8x1024x1.size a) :
    View.ld (Val := Elt Ideal) x (Rect.unit (s := S8x1024x1) ![q, 0, 0] S1x1024x1.size h) = slN x q := by
  have hq : q < 8 := h 0
  funext j
  have h0 : (j 0).val = 0 := by have : (j 0).val < 1 := (j 0).isLt; omega
  refine View.ld_unit_apply_of x _ _ h j _ fun a => ?_
  fin_cases a
  · simp [h0, hq, Nat.mod_eq_of_lt]
  · simp
  · simp

/-- Slice `q` of the transposed codebooks. -/
def slT (x : Vec Ideal S8x256x1024 .f32) (q : ℕ) : Vec Ideal S1x256x1024 .f32 := fun j => x (ix3 (Fin.ofNat 8 q) (j 1) (j 2))

/-- What it loads of the transposed codebooks. -/
theorem ld_T (x : Vec Ideal S8x256x1024 .f32) (q : ℕ) (h : ∀ a, ![q, 0, 0] a + S1x256x1024.size a ≤ S8x256x1024.size a) :
    View.ld (Val := Elt Ideal) x (Rect.unit (s := S8x256x1024) ![q, 0, 0] S1x256x1024.size h) = slT x q := by
  have hq : q < 8 := h 0
  funext j
  have h0 : (j 0).val = 0 := by have : (j 0).val < 1 := (j 0).isLt; omega
  refine View.ld_unit_apply_of x _ _ h j _ fun a => ?_
  fin_cases a
  · simp [h0, hq, Nat.mod_eq_of_lt]
  · simp
  · simp

variable (x0 : Vec Ideal S1x256x1024 .f32) (x1 : Vec Ideal S8x1024x256 .f32) (x2 : Vec Ideal S8x256x1024 .f32)
  (x3 x4 : Vec Ideal S8x256x1024 .bf16) (x5 : Vec Ideal S8x1024x1 .f32)

/-- The block's residual before stage `q`. -/
def kRes : ℕ → FVec Ideal S256x1024 .f32
  | 0 => shapeCast S256x1024 x0 shapeCasts_S1x256x1024_S256x1024
  | q + 1 => kNext (kRes q) (slE x1 q) (slN x5 q) (slT x2 q)

/-- The block's distances at stage `q`. -/
def kDst (q : ℕ) : FVec Ideal S1024x1024 .f32 := kDist (kRes x0 x1 x2 x5 q) (slE x1 q) (slN x5 q)

/-- The block's places at stage `q`. -/
def kCode (q : ℕ) : IVec S1x1024 32 := kIdx (kDst x0 x1 x2 x5 q)

/-- The load of the columns is the whole block. -/
theorem x0_whole : View.ld (Val := Elt Ideal) x0 r0_0 = x0 :=
  View.ld_unit_zero (S := S1x256x1024) (funext fun a => by fin_cases a <;> rfl) _ x0

/-- The row numbers that the body compares with. -/
theorem pay25_eq : k0_pay25 x0 x1 x2 x3 x4 x5 = places := rfl

/-- The residual after stage 0. -/
theorem pay26_eq : k0_pay26 x0 x1 x2 x3 x4 x5 = kRes x0 x1 x2 x5 1 := by
  unfold k0_pay26; rw [x0_whole, ld_E, ld_N, ld_T]; rfl

/-- The codebook of stage 1. -/
theorem pay27_eq : k0_pay27 x0 x1 x2 x3 x4 x5 = shapeCast S1024x256 (slE x1 1) shapeCasts_S1x1024x256_S1024x256 := by
  unfold k0_pay27; rw [ld_E]; rfl

/-- The squares of the residual after stage 0. -/
theorem pay28_eq : k0_pay28 x0 x1 x2 x3 x4 x5 = mulf (kRes x0 x1 x2 x5 1) (kRes x0 x1 x2 x5 1) := by
  unfold k0_pay28; rw [x0_whole, ld_E, ld_N, ld_T]; rfl

/-- The residual after stage 1. -/
theorem pay29_eq : k0_pay29 x0 x1 x2 x3 x4 x5 = kRes x0 x1 x2 x5 2 := by
  unfold k0_pay29; rw [pay25_eq, pay26_eq, pay27_eq, pay28_eq, ld_N, ld_T]; rfl

/-- A stage's distances before the codebook's squared norms are added. -/
def kPart (r : FVec Ideal S256x1024 .f32) (e : FVec Ideal S1x1024x256 .f32) : FVec Ideal S1024x1024 .f32 :=
  subf
    (broadcastTo S1024x1024
      (shapeCast S1x1024 (multiReduction .add [0] S1024 (mulf r r) 0x00000000#32 reduces_S256x1024_S1024 (.inl rfl) rfl)
        shapeCasts_S1024_S1x1024) broadcasts_S1x1024_S1024x1024)
    (mulf (broadcast S1024x1024 (Scalar.ofBits (F := Ideal) .f32 0x40000000#32))
      (matmul dot_S1024x256_S256x1024_S1024x1024_1_0_0_1_n_n none (shapeCast S1024x256 e shapeCasts_S1x1024x256_S1024x256) r
        (constant S1024x1024 .f32 0x00000000#32)))

/-- Stage 2's distances without the norms. -/
theorem pay30_eq : k0_pay30 x0 x1 x2 x3 x4 x5 = kPart (kRes x0 x1 x2 x5 2) (slE x1 2) := by
  unfold k0_pay30; rw [pay25_eq, pay26_eq, pay27_eq, pay28_eq, ld_N, ld_T, ld_E]; rfl

/-- The residual after stage 2. -/
theorem pay31_eq : k0_pay31 x0 x1 x2 x3 x4 x5 = kRes x0 x1 x2 x5 3 := by
  unfold k0_pay31; rw [pay25_eq, pay29_eq, pay30_eq, ld_N, ld_T]; rfl

/-- Stage 3's places. -/
theorem pay32_eq : k0_pay32 x0 x1 x2 x3 x4 x5 = kCode x0 x1 x2 x5 3 := by
  unfold k0_pay32; rw [pay25_eq, pay29_eq, pay30_eq, ld_N, ld_T, ld_E, ld_N]; rfl

/-- The residual after stage 4. -/
theorem pay33_eq : k0_pay33 x0 x1 x2 x3 x4 x5 = kRes x0 x1 x2 x5 5 := by
  unfold k0_pay33; rw [pay25_eq, pay31_eq, pay32_eq, ld_T, ld_E, ld_N, ld_T]; rfl

/-- The residual after stage 5. -/
theorem pay34_eq : k0_pay34 x0 x1 x2 x3 x4 x5 = kRes x0 x1 x2 x5 6 := by
  unfold k0_pay34; rw [pay25_eq, pay33_eq, ld_E, ld_N, ld_T]; rfl

/-- Stage 6's distances without the norms. -/
theorem pay35_eq : k0_pay35 x0 x1 x2 x3 x4 x5 = kPart (kRes x0 x1 x2 x5 6) (slE x1 6) := by
  unfold k0_pay35; rw [pay25_eq, pay33_eq, ld_E, ld_N, ld_T, ld_E]; rfl

/-- Where stage 7's distances are least in their column. -/
theorem pay36_eq : k0_pay36 x0 x1 x2 x3 x4 x5 = cmpf .oeq (kDst x0 x1 x2 x5 7) (broadcastTo S1024x1024
    (shapeCast S1x1024 (multiReduction .minimumf [0] S1024 (kDst x0 x1 x2 x5 7) 0x7F800000#32 reduces_S1024x1024_S1024 (.inl rfl) rfl)
      shapeCasts_S1024_S1x1024) broadcasts_S1x1024_S1024x1024) := by
  unfold k0_pay36; rw [pay25_eq, pay34_eq, pay35_eq, ld_N, ld_T, ld_E, ld_N]; rfl

/-- What the body leaves in the first output block: the block less its last residual. -/
theorem out6_eq : out0_6 x0 x1 x2 x3 x4 x5 = shapeCast S1x256x1024 (subf (kRes x0 x1 x2 x5 0) (kRes x0 x1 x2 x5 8)) shapeCasts_S256x1024_S1x256x1024 := by
  unfold out0_6
  rw [View.canon_unit_zero (S := S1x256x1024) (funext fun a => by fin_cases a <;> rfl),
    pay25_eq, pay34_eq, pay35_eq, pay36_eq, x0_whole, ld_N, ld_T, ld_T]
  rfl

/-- What it leaves in the second: the eight rows of places. -/
theorem out7_eq : out0_7 x0 x1 x2 x3 x4 x5 = shapeCast S1x8x1024 (concatenate S8x1024 0
    [⟨S1x1024, kCode x0 x1 x2 x5 0⟩, ⟨S1x1024, kCode x0 x1 x2 x5 1⟩, ⟨S1x1024, kCode x0 x1 x2 x5 2⟩, ⟨S1x1024, kCode x0 x1 x2 x5 3⟩,
     ⟨S1x1024, kCode x0 x1 x2 x5 4⟩, ⟨S1x1024, kCode x0 x1 x2 x5 5⟩, ⟨S1x1024, kCode x0 x1 x2 x5 6⟩, ⟨S1x1024, kCode x0 x1 x2 x5 7⟩]
    concatenates_S1x1024_S1x1024_S1x1024_S1x1024_S1x1024_S1x1024_S1x1024_S1x1024_S8x1024_d0) shapeCasts_S8x1024_S1x8x1024 := by
  unfold out0_7
  rw [View.canon_unit_zero (S := S1x8x1024) (funext fun a => by fin_cases a <;> rfl)]
  simp only [pay25_eq, pay26_eq, pay27_eq, pay28_eq, pay30_eq, pay31_eq, pay32_eq, pay33_eq, pay34_eq, pay35_eq, pay36_eq, x0_whole, ld_N, ld_T, ld_E]
  rfl

/-- The second output block at an index. -/
theorem out7_apply (q : Fin 8) (l : Fin 1024) : out0_7 x0 x1 x2 x3 x4 x5 (ix3 0 q l) = kCode x0 x1 x2 x5 q.val (ix2 0 l) := by
  rw [out7_eq]
  pointwise []
  fin_cases q <;> rfl

/-- The first at an index. -/
theorem out6_apply (d : Fin 256) (l : Fin 1024) : out0_6 x0 x1 x2 x3 x4 x5 (ix3 0 d l)
    = x0 (ix3 0 d l) - kRes x0 x1 x2 x5 8 (ix2 d l) := by
  rw [out6_eq]
  pointwise [kRes]

/-- The codebooks by stage. -/
def books (q : ℕ) : Rvq.Book := fun k d => x1 (ix3 (Fin.ofNat 8 q) k d)

/-- The columns' residuals are those of the quantiser, where the norms and the transposed codebooks are the codebooks'. -/
theorem kRes_apply (hn : ∀ q k, x5 (ix3 q k 0) = ∑ d : Fin 256, x1 (ix3 q k d) * x1 (ix3 q k d))
    (ht : ∀ q d k, x2 (ix3 q d k) = x1 (ix3 q k d)) (q : ℕ) (l : Fin 1024) :
    (fun d => kRes x0 x1 x2 x5 q (ix2 d l)) = Rvq.res (books x1) (fun d => x0 (ix3 0 d l)) q
    ∧ kCode x0 x1 x2 x5 q (ix2 0 l) = BitVec.ofNat 32 (Rvq.codeAt (books x1) (fun d => x0 (ix3 0 d l)) q).val := by
  have code (q : ℕ) (h : (fun d => kRes x0 x1 x2 x5 q (ix2 d l)) = Rvq.res (books x1) (fun d => x0 (ix3 0 d l)) q) :
      kCode x0 x1 x2 x5 q (ix2 0 l) = BitVec.ofNat 32 (Rvq.codeAt (books x1) (fun d => x0 (ix3 0 d l)) q).val := by
    unfold kCode kDst
    rw [kIdx_apply]
    unfold Rvq.codeAt Rvq.code
    rw [← h]
    congr 3
    funext k
    rw [kDist_apply]
    unfold Rvq.dist
    refine congrArg₂ (· + ·) (congrArg₂ (· - ·) rfl (congrArg (_ * ·) (Finset.sum_congr rfl fun d _ => mul_comm _ _))) (hn _ k)
  induction q with
  | zero =>
    have h : (fun d => kRes x0 x1 x2 x5 0 (ix2 d l)) = Rvq.res (books x1) (fun d => x0 (ix3 0 d l)) 0 := by
      funext d
      pointwise [kRes, Rvq.res]
    exact ⟨h, code 0 h⟩
  | succ q ih =>
    have h : (fun d => kRes x0 x1 x2 x5 (q + 1) (ix2 d l)) = Rvq.res (books x1) (fun d => x0 (ix3 0 d l)) (q + 1) := by
      funext d
      change kRes x0 x1 x2 x5 q (ix2 d l) - kRow (kCode x0 x1 x2 x5 q) (slT x2 q) (ix2 d l) = _
      rw [kRow_apply _ _ l _ ih.2 d]
      exact congrArg₂ (· - ·) (congrFun ih.1 d) (ht _ d _)
    exact ⟨h, code _ h⟩

end Cert.KStage
-- ==== Proof.KArrays.lean ====
/- The kernel's arrays: what the region reads, and what the two result arrays hold after it. -/
module

public import proofs.«01_k».proof.Proof.KBlock
public import Idealize.ShloMosaic.Lib.Claim

@[expose] public section

set_option maxRecDepth 16384

noncomputable section

namespace Cert.KStage

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The first argument's contents. -/
def argX (c : Dev nD) : Vec Ideal S16x256x2048 .f32 := m ((c : Thread nD τ).loc main_arg0)
/-- The second argument's contents. -/
def argE (c : Dev nD) : Vec Ideal S8x1024x256 .f32 := m ((c : Thread nD τ).loc main_arg1)

/-- The column of `x` at batch `b` and time `t`. -/
def column (x : Vec Ideal S16x256x2048 .f32) (b : Fin 16) (t : Fin 2048) : Rvq.Vect := fun d => x (ix3 b d t)

/-- The quantised output: each column less its last residual. -/
def outArr (x : Vec Ideal S16x256x2048 .f32) (e : Vec Ideal S8x1024x256 .f32) : Vec Ideal S16x256x2048 .f32 :=
  fun j => x (ix3 (j 0) (j 1) (j 2)) - Rvq.res (books e) (column x (j 0) (j 2)) 8 (j 1)

/-- The codes, batch by batch. -/
def codeArr (x : Vec Ideal S16x256x2048 .f32) (e : Vec Ideal S8x1024x256 .f32) : Vec Ideal S16x8x2048 .i32 :=
  fun j => BitVec.ofNat 32 (Rvq.codeAt (books e) (column x (j 0) (j 2)) (j 1).val).val

/-- The transposed codebooks at the region's entry. -/
theorem V_t (c : Dev nD) (q : Fin 8) (d : Fin 256) (k : Fin 1024) :
    V m c main_v0 (ix3 q d k) = argE m c (ix3 q k d) := by
  have h : V m c main_v0 = transpose S8x256x1024 [0, 2, 1] (argE m c) transposes_S8x1024x256_S8x256x1024_0_2_1 := by
    entry_read
    try rfl
  rw [h]
  pointwise []

/-- The codebooks' squared norms at the region's entry. -/
theorem V_n (c : Dev nD) (q : Fin 8) (k : Fin 1024) :
    V m c main_v28 (ix3 q k 0) = ∑ d : Fin 256, argE m c (ix3 q k d) * argE m c (ix3 q k d) := by
  have h : V m c main_v28 = broadcastInDim S8x1024x1 ![0, 1] bcast_S8x1024_S8x1024x1_0_1
      (Host.reduceAdd (F := Ideal) (φ := .f32) (mulf (argE m c) (argE m c)) (constant S_ .f32 0x00000000#32) reducesTo_S8x1024x256_S8x1024_d2 h_S_) := by
    entry_read
    try rfl
  rw [h]
  pointwise []

/-- The windows' index maps. -/
theorem idx (t : Fin cfg0.N) : win0_0.index t = ![(grid0.coords t 0).val, 0, (grid0.coords t 1).val]
    ∧ win0_6.index t = ![(grid0.coords t 0).val, 0, (grid0.coords t 1).val]
    ∧ win0_7.index t = ![(grid0.coords t 0).val, 0, (grid0.coords t 1).val]
    ∧ win0_1.index t = ![0, 0, 0] ∧ win0_2.index t = ![0, 0, 0] ∧ win0_5.index t = ![0, 0, 0] := by
  revert t; decide +kernel

/-- The codebooks, read at a point of the grid. -/
theorem iblk1_apply (c : Dev nD) (t : Fin cfg0.N) (q : Fin 8) (k : Fin 1024) (d : Fin 256) :
    iblk m c 1 t (ix3 q k d) = argE m c (ix3 q k d) := by
  unfold argE; rw [← V_main_arg1 m c]
  blk_ext [iblk, (idx t).2.2.2.1]

/-- The transposed codebooks, read at a point of the grid. -/
theorem iblk2_apply (c : Dev nD) (t : Fin cfg0.N) (q : Fin 8) (d : Fin 256) (k : Fin 1024) :
    iblk m c 2 t (ix3 q d k) = argE m c (ix3 q k d) := by
  rw [← V_t]
  blk_ext [iblk, (idx t).2.2.2.2.1]

/-- The squared norms, read at a point of the grid. -/
theorem iblk5_apply (c : Dev nD) (t : Fin cfg0.N) (q : Fin 8) (k : Fin 1024) :
    iblk m c 5 t (ix3 q k 0) = ∑ d : Fin 256, argE m c (ix3 q k d) * argE m c (ix3 q k d) := by
  rw [← V_n]
  blk_ext [iblk, (idx t).2.2.2.2.2]

/-- The block of columns at a point, read at the place of an index of the first result's block. -/
theorem iblk0_apply (c : Dev nD) (t : Fin cfg0.N) (l : Fin 1024) (b : Fin 16) (u : Fin 2048) (hb : b.val = (grid0.coords t 0).val)
    (hu : u.val = (grid0.coords t 1).val * 1024 + l.val) :
    (fun d => iblk m c 0 t (ix3 0 d l)) = column (argX m c) b u := by
  funext d
  unfold column argX; rw [← V_main_arg0 m c]
  blk_ext [iblk, (idx t).1]

/-- The squared norms are those of the codebooks read at the point. -/
theorem iblk_norms (c : Dev nD) (t : Fin cfg0.N) (q : Fin 8) (k : Fin 1024) :
    (∑ d : Fin 256, argE m c (ix3 q k d) * argE m c (ix3 q k d))
      = ∑ d : Fin 256, HMul.hMul (α := EReal) (β := EReal) (iblk m c 1 t (ix3 q k d)) (iblk m c 1 t (ix3 q k d)) :=
  Finset.sum_congr rfl fun d _ => by rw [iblk1_apply]

/-- The codebooks' block is the codebooks. -/
theorem iblk_books (c : Dev nD) (t : Fin cfg0.N) : books (iblk m c 1 t) = books (argE m c) := by
  funext q k d; exact iblk1_apply m c t _ k d

/-- The first result array after the region. -/
theorem final6 (c : Dev nD) : (dats m 0 c).arrAt 6 (cfgs 0).N = outArr (argX m c) (argE m c) := by
  refine (dats m 0 c).arrAt_eq_of_covers 6 _ (by decide +kernel) fun t hf y => ?_
  blk_simp
  rw [after0_6]
  have hy : ((y 0 : ℕ) = 0) := by have : (y 0).val < 1 := (y 0).isLt; omega
  have h0 : ((win0_6.blk t).view.emb y 0).val = (grid0.coords t 0).val := by blk_simp [(idx t).2.1]; try simp [hy]
  have h1 : ((win0_6.blk t).view.emb y 1).val = (y 1).val := by blk_simp [(idx t).2.1]; try simp
  have h2 : ((win0_6.blk t).view.emb y 2).val = (grid0.coords t 1).val * 1024 + (y 2).val := by blk_simp [(idx t).2.1]; try simp
  generalize (win0_6.blk t).view.emb y = i at h0 h1 h2
  have ey : y = ix3 (0 : Fin 1) (y 1 : Fin 256) (y 2 : Fin 1024) := by
    funext a; fin_cases a
    · exact Fin.ext hy
    · rfl
    · rfl
  obtain ⟨b, d, u, rfl⟩ : ∃ (b : Fin 16) (d : Fin 256) (u : Fin 2048), i = ix3 b d u := ⟨i 0, i 1, i 2, ValueIdx.eq_ix3 i⟩
  obtain rfl : d = y 1 := Fin.ext h1
  have hx := iblk0_apply m c t (y 2) b u h0 h2
  have hr := (kRes_apply (iblk m c 0 t) _ _ _ (fun q k => (iblk5_apply m c t q k).trans (iblk_norms m c t q k)) (fun q d k => (iblk2_apply m c t q d k).trans (iblk1_apply m c t q k d).symm) 8 (y 2)).1
  rw [hx, iblk_books] at hr
  refine (congrArg (out0_6 _ _ _ _ _ _) ey).trans ((out6_apply _ _ _ _ _ _ (y 1) (y 2)).trans ?_)
  exact congrArg₂ (· - ·) (congrFun hx (y 1)) (congrFun hr (y 1))

/-- The second. -/
theorem final7 (c : Dev nD) : (dats m 0 c).arrAt 7 (cfgs 0).N = codeArr (argX m c) (argE m c) := by
  refine (dats m 0 c).arrAt_eq_of_covers 7 _ (by decide +kernel) fun t hf y => ?_
  blk_simp
  rw [after0_7]
  have hy : ((y 0 : ℕ) = 0) := by have : (y 0).val < 1 := (y 0).isLt; omega
  have h0 : ((win0_7.blk t).view.emb y 0).val = (grid0.coords t 0).val := by blk_simp [(idx t).2.2.1]; try simp [hy]
  have h1 : ((win0_7.blk t).view.emb y 1).val = (y 1).val := by blk_simp [(idx t).2.2.1]; try simp
  have h2 : ((win0_7.blk t).view.emb y 2).val = (grid0.coords t 1).val * 1024 + (y 2).val := by blk_simp [(idx t).2.2.1]; try simp
  generalize (win0_7.blk t).view.emb y = i at h0 h1 h2
  have ey : y = ix3 (0 : Fin 1) (y 1 : Fin 8) (y 2 : Fin 1024) := by
    funext a; fin_cases a
    · exact Fin.ext hy
    · rfl
    · rfl
  obtain ⟨b, d, u, rfl⟩ : ∃ (b : Fin 16) (d : Fin 8) (u : Fin 2048), i = ix3 b d u := ⟨i 0, i 1, i 2, ValueIdx.eq_ix3 i⟩
  obtain rfl : d = y 1 := Fin.ext h1
  have hx := iblk0_apply m c t (y 2) b u h0 h2
  have hr := (kRes_apply (iblk m c 0 t) _ _ _ (fun q k => (iblk5_apply m c t q k).trans (iblk_norms m c t q k)) (fun q d k => (iblk2_apply m c t q d k).trans (iblk1_apply m c t q k d).symm) (y 1 : Fin 8).val (y 2)).2
  rw [hx, iblk_books] at hr
  refine (congrArg (out0_7 _ _ _ _ _ _) ey).trans ((out7_apply _ _ _ _ _ _ (y 1) (y 2)).trans ?_)
  exact hr

end Cert.KStage
-- ==== Proof.KRun.lean ====
/- The kernel's run, with what each result array holds at the end of it. -/
module

public import proofs.«01_k».proof.Proof.KArrays

@[expose] public section

set_option maxRecDepth 16384

noncomputable section

namespace Cert.KStage

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The codes, stage by stage: what the operation after the region makes of them. -/
def codeOut (x : Vec Ideal S16x256x2048 .f32) (e : Vec Ideal S8x1024x256 .f32) : Vec Ideal S8x16x2048 .i32 :=
  transpose S8x16x2048 [1, 0, 2] (codeArr x e) transposes_S16x8x2048_S8x16x2048_1_0_2

/-- The transposition at an index. -/
theorem swap_apply (v : Vec Ideal S16x8x2048 .i32) (q : Fin 8) (b : Fin 16) (t : Fin 2048) :
    transpose S8x16x2048 [1, 0, 2] v transposes_S16x8x2048_S8x16x2048_1_0_2 (ix3 q b t) = v (ix3 b q t) := by
  pointwise []

/-- The codes, stage by stage, at an index. -/
theorem codeOut_apply (x : Vec Ideal S16x256x2048 .f32) (e : Vec Ideal S8x1024x256 .f32) (q : Fin 8) (b : Fin 16) (t : Fin 2048) :
    codeOut x e (ix3 q b t) = codeArr x e (ix3 b q t) := swap_apply _ q b t

/-- The codes after the whole line. -/
theorem tail_codes (c : Dev nD) : Pipeline.afterTail₀ cfgs (dats m) 0 (V0 m) [hostOps1] c main_v30 = codeOut (argX m c) (argE m c) := by
  have h := Pipeline.withArrays_arr spec0 winFacts0.arr_inj c (V0 m c) (fun w => (dats m 0 c).arrAt w (cfgs 0).N) 7
  have h' := h.trans (final7 m c)
  show StableHlo.after hostOps1 (Pipeline.withArrays spec0 c (V0 m c) fun w => (dats m 0 c).arrAt w (cfgs 0).N) (Proc.devRef .tc main_v30) = _
  generalize (Pipeline.withArrays spec0 c (V0 m c) fun w => (dats m 0 c).arrAt w (cfgs 0).N) = U at h' ⊢
  change U (Proc.devRef .tc main_v29_1) = _ at h'
  unfold codeOut
  rw [← h']
  rfl

/-- The run: the quantised output, the codes, the arguments as they were. -/
theorem run (ρ : Dev nD → PrngReg) : θ_run defs (onTc (τ := τ) (main (F := Ideal))) ⟨m, fun _ => 0, ρ⟩ fun r => ∀ c : Dev nD,
    r.2.mem ((c.tc : Thread nD τ).loc main_v29_0) = outArr (argX m c) (argE m c)
    ∧ r.2.mem ((c.tc : Thread nD τ).loc main_v30) = codeOut (argX m c) (argE m c)
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨((h.1 c).1 6).trans (final6 m c),
    ((h.1 c).2 main_v30 (by decide)).trans (tail_codes m c), h.2 c⟩) (θ_run_and (run_main m ρ) (unchanged m ρ))

end Cert.KStage

end
-- ==== Proof.RefLine.lean ====
/- The reference's text as one list of host operations, and its run: what every buffer holds at the end. -/
module

public import proofs.«01_k».proof.Defs
public import proofs.«01_k».proof.Proof.Gen.ReferenceIdeal
public import Idealize.ShloMosaic.Lib.StableHlo.RunHlo
public import Idealize.ShloMosaic.Lib.StableHlo.RunRead
public import Idealize.ShloMosaic.Lib.Claim

@[expose] public section

set_option maxRecDepth 16384

noncomputable section

namespace Cert.RefLine

open Idealize.ShloMosaic Idealize.SL.Sem Idealize.ShloMosaic.StableHlo
open Cert.ReferenceIdeal Cert.ReferenceIdeal.Gen

/-- A straight line followed by a straight line is the straight line of both. -/
theorem isSeq_append {nD : Nat} {τ : Topo} {sig : RefSig} {Val : EltTy → Type} {Λ : Labels}
    {p k : Prog (TpuEff nD τ sig Val Λ .tc) PUnit} {l₁ l₂ : List (HloOp τ sig Val)}
    (hp : IsSeq p l₁) (hk : IsSeq k l₂) : IsSeq (p >>= fun _ => k) (l₁ ++ l₂) := by
  unfold IsSeq at *; rw [hp, hk, seq_append]

/-- A program with the list of its operations. -/
def text {nD : Nat} {τ : Topo} {sig : RefSig} {Val : EltTy → Type} {Λ : Labels}
    {p : Prog (TpuEff nD τ sig Val Λ .tc) PUnit} {ops : List (HloOp τ sig Val)} (h : IsSeq p ops) :
    {ops : List (HloOp τ sig Val) // IsSeq p ops} := ⟨ops, h⟩

/-- The first quarter of the printed `main`. -/
def part0 : {ops : List (HloOp τ sig (Elt Ideal)) // IsSeq (main_part0 (F := Ideal) 0) ops} := by
  apply text
  · unfold main_part0
    repeat (first | apply IsSeq.cons | exact IsSeq.nil)

/-- The second quarter of the printed `main`. -/
def part1 : {ops : List (HloOp τ sig (Elt Ideal)) // IsSeq (main_part1 (F := Ideal) 0) ops} := by
  apply text
  · unfold main_part1
    repeat (first | apply IsSeq.cons | exact IsSeq.nil)

/-- The third quarter of the printed `main`. -/
def part2 : {ops : List (HloOp τ sig (Elt Ideal)) // IsSeq (main_part2 (F := Ideal) 0) ops} := by
  apply text
  · unfold main_part2
    repeat (first | apply IsSeq.cons | exact IsSeq.nil)

/-- The last quarter of the printed `main`. -/
def part3 : {ops : List (HloOp τ sig (Elt Ideal)) // IsSeq (main_part3 (F := Ideal) 0) ops} := by
  apply text
  · unfold main_part3
    repeat (first | apply IsSeq.cons | exact IsSeq.nil)

/-- The operations of the reference, in order. -/
def ops : List (HloOp τ sig (Elt Ideal)) := part0.1 ++ (part1.1 ++ (part2.1 ++ part3.1))

/-- The printed `main` is the straight line of `ops`. -/
theorem main_isSeq (d : Dev nD) : IsSeq (main (F := Ideal) d) ops :=
  isSeq_append part0.2 (isSeq_append part1.2 (isSeq_append part2.2 part3.2))

/-- Every operation names TensorCore buffers only. -/
theorem ops_bufs : ops.Forall fun op => op.bufs ⊆ tcRefs τ sig := by
  simp only [ops, List.forall_append]
  refine ⟨?_, ?_, ?_, ?_⟩
  · unfold part0 text; simp
  · unfold part1 text; simp
  · unfold part2 text; simp
  · unfold part3 text; simp

/-- No operation waits for a fresh value. -/
theorem ops_fresh : ∀ op ∈ ops, op.fresh = ∅ := List.forall_iff_forall_mem.mp (forall_fresh_of_map rfl)

/-- The reference runs, and every buffer ends holding what the line leaves in it. -/
theorem run (m : (ℓ : Loc nD τ sig) → Buf (Elt Ideal) ℓ) (g : Dev nD → PrngReg) :
    θ_run (defs (F := Ideal)) (onTc (τ := τ) (main (F := Ideal))) ⟨m, fun _ => 0, g⟩ fun r =>
      ∀ (d : Dev nD) (b : Ref sig .tc), r.2.mem ((d.tc : Thread nD τ).loc b) = after ops (launchContents m d) (Proc.devRef .tc b) :=
  run_hlo _ _ main_isSeq (by decide) (by decide) ops_bufs ops_fresh m g

end Cert.RefLine

end
-- ==== Proof.RefStages.lean ====
/- The reference's stages: what one stage leaves in its residual, its running total and its codes. -/
module

public import proofs.«01_k».proof.Proof.RefLine

@[expose] public section

set_option maxRecDepth 16384

noncomputable section

namespace Cert.RefLine

open Idealize.ShloMosaic Idealize.SL.Sem Idealize.ShloMosaic.StableHlo
open Cert.ReferenceIdeal Cert.ReferenceIdeal.Gen

/-- An f32 array of reals. -/
abbrev FArr (S : Shape) := FVec Ideal S .f32
/-- An array of 32-bit words. -/
abbrev IArr (S : Shape) := IVec S 32

/-- The distances of every row of `r` to every row of the codebook `cb`. -/
def distA (r : FArr S32768x256) (cb : FArr S1024x256) : FArr S32768x1024 :=
  addf (subf
      (broadcastInDim S32768x1024 ![0, 1] bcast_S32768x1_S32768x1024_0_1 (broadcastInDim S32768x1 ![0] bcast_S32768_S32768x1_0
        (Host.reduceAdd (mulf r r) (constant S_ .f32 0x00000000#32) reducesTo_S32768x256_S32768_d1 h_S_)))
      (mulf (broadcastInDim S32768x1024 ![] bcast_S_S32768x1024 (constant S_ .f32 0x40000000#32))
        (Host.dotGeneral dot_S32768x256_S256x1024_S32768x1024_1_0_0_1_n_n none r
          (transpose S256x1024 [1, 0] cb transposes_S1024x256_S256x1024_1_0))))
    (broadcastInDim S32768x1024 ![0, 1] bcast_S1x1024_S32768x1024_0_1 (broadcastInDim S1x1024 ![1] bcast_S1024_S1x1024_1
      (Host.reduceAdd (mulf cb cb) (constant S_ .f32 0x00000000#32) reducesTo_S1024x256_S1024_d1 h_S_)))

/-- Each row's least distance with its index. -/
def leastA (x : FArr S32768x1024) : S32768.Idx → Ideal .f32 × BitVec 32 :=
  Host.argReduce reducer_argmin_f32_i32 x (iotaInDim S32768x1024 32 1) (constant (F := Ideal) S_ .f32 0x7F800000#32) (constantI S_ 32 0#32)
    reducesTo_S32768x1024_S32768_d1 h_S_

/-- The index of each row's least distance. -/
def idxA (x : FArr S32768x1024) : IArr S32768 := fun j => (leastA x j).2

/-- The index with a negative one taken from the end, as a column. -/
def wrapA (i : IArr S32768) : IArr S32768x1 :=
  broadcastInDim S32768x1 ![0] bcast_S32768_S32768x1_0
    (select (cmpi .slt i (broadcastInDim S32768 ![] bcast_S_S32768 (constantI S_ 32 0#32)))
      (addi i (broadcastInDim S32768 ![] bcast_S_S32768 (constantI S_ 32 1024#32))) i)

/-- The rows of `cb` that `i` names. -/
def takeA (cb : FArr S1024x256) (i : IArr S32768) : FArr S32768x256 :=
  select (broadcastInDim S32768x256 ![0] bcast_S32768_S32768x256_0
      (Host.reduce IntOp.andi
        (andi (cmpi .sge (wrapA i) (broadcastInDim S32768x1 ![] bcast_S_S32768x1 (constantI S_ 32 0#32)))
          (cmpi .sle (wrapA i) (broadcastInDim S32768x1 ![0, 1] bcast_S1x1_S32768x1_0_1
            (broadcastInDim S1x1 ![1] bcast_S1_S1x1_1 (constantI S1 32 1023#32)))))
        (constantI S_ 1 1#1) reducesTo_S32768x1_S32768_d1 h_S_))
    (Host.gather gather_S1024x256_S32768x1_S32768x256_1_0_n_n_0_1_1256 cb (wrapA i))
    (broadcastInDim S32768x256 ![] bcast_S_S32768x256 (constant (F := Ideal) S_ .f32 0x7FC00000#32))

/-- The codebook that stage `q` reads. -/
def cbA (E : FArr S8x1024x256) (q : ℕ) (h : S8x1024x256.Slices ![q, 0, 0] S1x1024x256) : FArr S1024x256 :=
  shapeCast S1024x256 (extractStridedSlice S1x1024x256 ![q, 0, 0] E h) shapeCasts_S1x1024x256_S1024x256

/-- The indices a stage picks. -/
def stageIdx (r : FArr S32768x256) (cb : FArr S1024x256) : IArr S32768 := idxA (distA r cb)

/-- The rows a stage picks. -/
def stageRow (r : FArr S32768x256) (cb : FArr S1024x256) : FArr S32768x256 := takeA cb (stageIdx r cb)

/-- Fifty operations of the line, from the `n`th. -/
def seg (n : ℕ) : List (HloOp τ sig (Elt Ideal)) := (ops.drop n).take 50

/-- A stage's next residual. -/
def nextA (r : FArr S32768x256) (cb : FArr S1024x256) : FArr S32768x256 := subf r (stageRow r cb)

/-- A stage's next running total. -/
def totA (t r : FArr S32768x256) (cb : FArr S1024x256) : FArr S32768x256 := addf t (stageRow r cb)

/-- A stage's codes. -/
def codeA (r : FArr S32768x256) (cb : FArr S1024x256) : IArr S16x2048 := shapeCast S16x2048 (stageIdx r cb) shapeCasts_S32768_S16x2048

/-- What a stage reading the codebook `e` does: residual `r` and total `t` to residual `r'`, total `t'` and codes `c`. -/
def StageEq (cb : FArr S1024x256) (r t r' t' : FArr S32768x256) (c : IArr S16x2048) : Prop :=
  r' = nextA r cb ∧ t' = totA t r cb ∧ c = codeA r cb

variable (V : Valuation τ sig (Elt Ideal))

/-- Stage 0: it reads `main_v1` and `main_v2` and leaves `main_v21`, `main_v22` and the codes `main_v23`. -/
theorem stage0 : StageEq (cbA (V (Proc.devRef .tc main_arg1)) 0 slices_S8x1024x256_S1x1024x256_0_0_0)
    (V (Proc.devRef .tc main_v1)) (V (Proc.devRef .tc main_v2)) (after (seg 4) V (Proc.devRef .tc main_v21))
    (after (seg 4) V (Proc.devRef .tc main_v22)) (after (seg 4) V (Proc.devRef .tc main_v23)) := by
  refine ⟨?_, ?_, Eq.trans (b := shapeCast S16x2048 (after (seg 4) V (Proc.devRef .tc main_v19)) shapeCasts_S32768_S16x2048)
    (by after_reads_simp; rfl) (congrArg (shapeCast S16x2048 · shapeCasts_S32768_S16x2048) ?_)⟩
  all_goals
    after_reads_simp; simp only [TRef.ofBuf_toBuf]
    simp -implicitDefEqProofs only [TRef.toBuf, TRef.ofBuf, cast_cast, cast_eq]; rfl

/-- Stage 1: it reads `main_v21` and `main_v22` and leaves `main_v42`, `main_v43` and the codes `main_v44`. -/
theorem stage1 : StageEq (cbA (V (Proc.devRef .tc main_arg1)) 1 slices_S8x1024x256_S1x1024x256_1_0_0)
    (V (Proc.devRef .tc main_v21)) (V (Proc.devRef .tc main_v22)) (after (seg 54) V (Proc.devRef .tc main_v42))
    (after (seg 54) V (Proc.devRef .tc main_v43)) (after (seg 54) V (Proc.devRef .tc main_v44)) := by
  refine ⟨?_, ?_, Eq.trans (b := shapeCast S16x2048 (after (seg 54) V (Proc.devRef .tc main_v40)) shapeCasts_S32768_S16x2048)
    (by after_reads_simp; rfl) (congrArg (shapeCast S16x2048 · shapeCasts_S32768_S16x2048) ?_)⟩
  all_goals
    after_reads_simp; simp only [TRef.ofBuf_toBuf]
    simp -implicitDefEqProofs only [TRef.toBuf, TRef.ofBuf, cast_cast, cast_eq]; rfl

/-- Stage 2: it reads `main_v42` and `main_v43` and leaves `main_v63`, `main_v64` and the codes `main_v65`. -/
theorem stage2 : StageEq (cbA (V (Proc.devRef .tc main_arg1)) 2 slices_S8x1024x256_S1x1024x256_2_0_0)
    (V (Proc.devRef .tc main_v42)) (V (Proc.devRef .tc main_v43)) (after (seg 104) V (Proc.devRef .tc main_v63))
    (after (seg 104) V (Proc.devRef .tc main_v64)) (after (seg 104) V (Proc.devRef .tc main_v65)) := by
  refine ⟨?_, ?_, Eq.trans (b := shapeCast S16x2048 (after (seg 104) V (Proc.devRef .tc main_v61)) shapeCasts_S32768_S16x2048)
    (by after_reads_simp; rfl) (congrArg (shapeCast S16x2048 · shapeCasts_S32768_S16x2048) ?_)⟩
  all_goals
    after_reads_simp; simp only [TRef.ofBuf_toBuf]
    simp -implicitDefEqProofs only [TRef.toBuf, TRef.ofBuf, cast_cast, cast_eq]; rfl

/-- Stage 3: it reads `main_v63` and `main_v64` and leaves `main_v84`, `main_v85` and the codes `main_v86`. -/
theorem stage3 : StageEq (cbA (V (Proc.devRef .tc main_arg1)) 3 slices_S8x1024x256_S1x1024x256_3_0_0)
    (V (Proc.devRef .tc main_v63)) (V (Proc.devRef .tc main_v64)) (after (seg 154) V (Proc.devRef .tc main_v84))
    (after (seg 154) V (Proc.devRef .tc main_v85)) (after (seg 154) V (Proc.devRef .tc main_v86)) := by
  refine ⟨?_, ?_, Eq.trans (b := shapeCast S16x2048 (after (seg 154) V (Proc.devRef .tc main_v82)) shapeCasts_S32768_S16x2048)
    (by after_reads_simp; rfl) (congrArg (shapeCast S16x2048 · shapeCasts_S32768_S16x2048) ?_)⟩
  all_goals
    after_reads_simp; simp only [TRef.ofBuf_toBuf]
    simp -implicitDefEqProofs only [TRef.toBuf, TRef.ofBuf, cast_cast, cast_eq]; rfl

/-- Stage 4: it reads `main_v84` and `main_v85` and leaves `main_v105`, `main_v106` and the codes `main_v107`. -/
theorem stage4 : StageEq (cbA (V (Proc.devRef .tc main_arg1)) 4 slices_S8x1024x256_S1x1024x256_4_0_0)
    (V (Proc.devRef .tc main_v84)) (V (Proc.devRef .tc main_v85)) (after (seg 204) V (Proc.devRef .tc main_v105))
    (after (seg 204) V (Proc.devRef .tc main_v106)) (after (seg 204) V (Proc.devRef .tc main_v107)) := by
  refine ⟨?_, ?_, Eq.trans (b := shapeCast S16x2048 (after (seg 204) V (Proc.devRef .tc main_v103)) shapeCasts_S32768_S16x2048)
    (by after_reads_simp; rfl) (congrArg (shapeCast S16x2048 · shapeCasts_S32768_S16x2048) ?_)⟩
  all_goals
    after_reads_simp; simp only [TRef.ofBuf_toBuf]
    simp -implicitDefEqProofs only [TRef.toBuf, TRef.ofBuf, cast_cast, cast_eq]; rfl

/-- Stage 5: it reads `main_v105` and `main_v106` and leaves `main_v126`, `main_v127` and the codes `main_v128`. -/
theorem stage5 : StageEq (cbA (V (Proc.devRef .tc main_arg1)) 5 slices_S8x1024x256_S1x1024x256_5_0_0)
    (V (Proc.devRef .tc main_v105)) (V (Proc.devRef .tc main_v106)) (after (seg 254) V (Proc.devRef .tc main_v126))
    (after (seg 254) V (Proc.devRef .tc main_v127)) (after (seg 254) V (Proc.devRef .tc main_v128)) := by
  refine ⟨?_, ?_, Eq.trans (b := shapeCast S16x2048 (after (seg 254) V (Proc.devRef .tc main_v124)) shapeCasts_S32768_S16x2048)
    (by after_reads_simp; rfl) (congrArg (shapeCast S16x2048 · shapeCasts_S32768_S16x2048) ?_)⟩
  all_goals
    after_reads_simp; simp only [TRef.ofBuf_toBuf]
    simp -implicitDefEqProofs only [TRef.toBuf, TRef.ofBuf, cast_cast, cast_eq]; rfl

/-- Stage 6: it reads `main_v126` and `main_v127` and leaves `main_v147`, `main_v148` and the codes `main_v149`. -/
theorem stage6 : StageEq (cbA (V (Proc.devRef .tc main_arg1)) 6 slices_S8x1024x256_S1x1024x256_6_0_0)
    (V (Proc.devRef .tc main_v126)) (V (Proc.devRef .tc main_v127)) (after (seg 304) V (Proc.devRef .tc main_v147))
    (after (seg 304) V (Proc.devRef .tc main_v148)) (after (seg 304) V (Proc.devRef .tc main_v149)) := by
  refine ⟨?_, ?_, Eq.trans (b := shapeCast S16x2048 (after (seg 304) V (Proc.devRef .tc main_v145)) shapeCasts_S32768_S16x2048)
    (by after_reads_simp; rfl) (congrArg (shapeCast S16x2048 · shapeCasts_S32768_S16x2048) ?_)⟩
  all_goals
    after_reads_simp; simp only [TRef.ofBuf_toBuf]
    simp -implicitDefEqProofs only [TRef.toBuf, TRef.ofBuf, cast_cast, cast_eq]; rfl

/-- Stage 7: it reads `main_v147` and `main_v148` and leaves `main_v168`, `main_v169` and the codes `main_v170`. -/
theorem stage7 : StageEq (cbA (V (Proc.devRef .tc main_arg1)) 7 slices_S8x1024x256_S1x1024x256_7_0_0)
    (V (Proc.devRef .tc main_v147)) (V (Proc.devRef .tc main_v148)) (after (seg 354) V (Proc.devRef .tc main_v168))
    (after (seg 354) V (Proc.devRef .tc main_v169)) (after (seg 354) V (Proc.devRef .tc main_v170)) := by
  refine ⟨?_, ?_, Eq.trans (b := shapeCast S16x2048 (after (seg 354) V (Proc.devRef .tc main_v166)) shapeCasts_S32768_S16x2048)
    (by after_reads_simp; rfl) (congrArg (shapeCast S16x2048 · shapeCasts_S32768_S16x2048) ?_)⟩
  all_goals
    after_reads_simp; simp only [TRef.ofBuf_toBuf]
    simp -implicitDefEqProofs only [TRef.toBuf, TRef.ofBuf, cast_cast, cast_eq]; rfl

end Cert.RefLine

end
-- ==== Proof.RefIndex.lean ====
/- The reference's stage at an index. -/
module

public import proofs.«01_k».proof.Proof.RefStages
public import proofs.«01_k».proof.Proof.Rvq
public import Idealize.ShloMosaic.Lib.Routing.Ops

@[expose] public section

set_option maxRecDepth 16384

noncomputable section

namespace Cert.RefLine

open Idealize.ShloMosaic
open Cert.ReferenceIdeal Cert.ReferenceIdeal.Gen

/-- Row `n` of an array of rows. -/
def rowOf (r : FArr S32768x256) (n : Fin 32768) : Rvq.Vect := fun d => r (ix2 n d)
/-- A codebook by rows. -/
def bookOf (cb : FArr S1024x256) : Rvq.Book := fun k d => cb (ix2 k d)

/-- The distances at a row and a codebook row. -/
theorem distA_apply (r : FArr S32768x256) (cb : FArr S1024x256) (n : Fin 32768) (k : Fin 1024) :
    distA r cb (ix2 n k) = Rvq.dist (bookOf cb) (rowOf r n) k := by
  pointwise [distA, Rvq.dist, bookOf, rowOf]

/-- The reference's reducer keeps the earlier of two pairs. -/
theorem reducer_keeps (a b : EReal × BitVec 32) :
    (reducer_argmin_f32_i32 (F := Ideal) a b = a ∧ Rvq.Before a b) ∨ (reducer_argmin_f32_i32 (F := Ideal) a b = b ∧ Rvq.Before b a) := by
  obtain ⟨a, i⟩ := a
  obtain ⟨b, j⟩ := b
  have hlt : FloatOps.cmpf (F := Ideal) (φ := .f32) .olt a b = BitVec.ofBool (decide (a < b)) := rfl
  have hne : FloatOps.cmpf (F := Ideal) (φ := .f32) .une a a = 0#1 := by simp [Ideal.cmpf_def, Ideal.cmp]
  have heq : FloatOps.cmpf (F := Ideal) (φ := .f32) .oeq a b = BitVec.ofBool (decide (a = b)) := rfl
  simp only [reducer_argmin_f32_i32, hlt, hne, heq, IntOp.cmpi, Rvq.Before]
  rcases lt_trichotomy a b with h | h | h
  · left
    have ho (c : BitVec 1) : 1#1 ||| c = 1#1 := by revert c; decide
    simp [h, IntOp.ori, IntOp.andi, Scalar.select, ho]
  · subst h
    by_cases hij : i.slt j
    · left; simp [hij, IntOp.ori, IntOp.andi, Scalar.select]
      simp only [BitVec.slt, decide_eq_true_eq] at hij; omega
    · right; simp [hij, IntOp.ori, IntOp.andi, Scalar.select]
      simp only [BitVec.slt, decide_eq_true_eq] at hij; omega
  · right; simp [h, h.not_gt, h.ne', IntOp.ori, IntOp.andi, Scalar.select]

/-- The pairs a row's search meets: the row's entries with their places. -/
theorem mem_fiber (x : FArr S32768x1024) (n : Fin 32768) (p : EReal × BitVec 32) :
    p ∈ Host.argReduceFiber x (iotaInDim S32768x1024 32 1) reducesTo_S32768x1024_S32768_d1 (ix1 n)
      ↔ ∃ k : Fin 1024, p = (x (ix2 n k), BitVec.ofNat 32 k.val) := by
  unfold Host.argReduceFiber
  simp only [List.mem_map, List.mem_filter, List.mem_finRange, true_and, decide_eq_true_eq]
  constructor
  · rintro ⟨q, hq, rfl⟩
    obtain ⟨i, hi⟩ : ∃ i, i = S32768x1024.rowMajor.symm q := ⟨_, rfl⟩
    rw [← hi] at hq ⊢
    have h0 : (i 0).val = n.val := by
      have := congrArg (fun j => (j 0).val) hq
      exact (reducesTo_S32768x1024_S32768_d1.drop_apply_val_of_eq i 0 0).symm.trans this
    refine ⟨i 1, ?_⟩
    have e : i = ix2 n (i 1) := (ValueIdx.eq_ix2 i).trans (congrArg (fun a => ix2 a (i 1)) (Fin.ext h0))
    exact congrArg (fun j => (x j, BitVec.ofNat 32 (i 1).val)) e
  · rintro ⟨k, rfl⟩
    refine ⟨S32768x1024.rowMajor (ix2 n k), ?_, ?_⟩
    · rw [Equiv.symm_apply_apply]
      funext a
      obtain rfl : a = 0 := Subsingleton.elim _ _
      exact Fin.ext (reducesTo_S32768x1024_S32768_d1.drop_apply_val_of_eq (ix2 n k) 0 0)
    · rw [Equiv.symm_apply_apply]; rfl

/-- The search from a stated first pair. -/
theorem reduce2_amin (x : FArr S32768x1024) (y : IArr S32768x1024) (ix : FArr S_) (iy : IArr S_)
    (hy : y = iotaInDim S32768x1024 32 1) (hi : (ix (Shape.Idx.first h_S_), iy (Shape.Idx.first h_S_)) = ((⊤ : EReal), 0#32)) (n : Fin 32768) :
    (Host.reduce2 reducer_argmin_f32_i32 x y ix iy reducesTo_S32768x1024_S32768_d1 h_S_ (ix1 n)).2
      = BitVec.ofNat 32 (Rvq.amin fun k => x (ix2 n k)).val := by
  have hL := mem_fiber x n
  rw [← hy] at hL
  rw [Host.reduce2_eq_foldl_fiber, hi]
  generalize Host.argReduceFiber x y reducesTo_S32768x1024_S32768_d1 (ix1 n) = L at hL ⊢
  exact Rvq.foldl_amin _ reducer_keeps _ L hL

/-- The search starts from infinity. -/
theorem start_top : constant (F := Ideal) S_ .f32 0x7F800000#32 (Shape.Idx.first h_S_) = (⊤ : EReal) := by
  pointwise []
  simp [Ideal.ofBits, Ideal.ieee]

/-- Each row's search, as a fold. -/
theorem leastA_eq (x : FArr S32768x1024) : leastA x = Host.reduce2 reducer_argmin_f32_i32 x (iotaInDim S32768x1024 32 1)
    (constant (F := Ideal) S_ .f32 0x7F800000#32) (constantI S_ 32 0#32) reducesTo_S32768x1024_S32768_d1 h_S_ := by
  unfold leastA
  rw [Ideal.argReduce_eq_reduce2]

/-- The places are the searches' second components. -/
theorem idxA_of (x : FArr S32768x1024) (p : S32768.Idx → Ideal .f32 × BitVec 32) (hp : p = leastA x) : idxA x = fun j => (p j).2 := by
  subst hp; delta idxA; exact Eq.refl _

/-- The picked place of a row. -/
theorem idxA_apply (x : FArr S32768x1024) (n : Fin 32768) :
    idxA x (ix1 n) = BitVec.ofNat 32 (Rvq.amin fun k => x (ix2 n k)).val := by
  obtain ⟨p, hp⟩ : ∃ p, p = leastA x := ⟨_, rfl⟩
  have h : idxA x (ix1 n) = (p (ix1 n)).2 := congrFun (idxA_of x p hp) (ix1 n)
  rw [leastA_eq] at hp
  rw [h, hp]
  exact reduce2_amin x _ _ _ rfl (by rw [start_top]; rfl) n

/-- A place is not negative. -/
theorem slt_zero (a : Fin 1024) : (BitVec.ofNat 32 a.val).slt 0#32 = false := by
  simp [BitVec.slt, Rvq.toInt_place]
/-- A place is at least zero. -/
theorem zero_sle (a : Fin 1024) : (0#32).sle (BitVec.ofNat 32 a.val) = true := by
  simp [BitVec.sle, Rvq.toInt_place]
/-- A place is at most the last one. -/
theorem sle_last (a : Fin 1024) : (BitVec.ofNat 32 a.val).sle 1023#32 = true := by
  have h : (1023#32 : BitVec 32).toInt = 1023 := by decide
  have := a.isLt
  simp only [BitVec.sle, Rvq.toInt_place, h, decide_eq_true_eq]; omega

/-- The picked row. -/
theorem takeA_apply (cb : FArr S1024x256) (i : IArr S32768) (n : Fin 32768) (a : Fin 1024) (h : i (ix1 n) = BitVec.ofNat 32 a.val)
    (d : Fin 256) : takeA cb i (ix2 n d) = cb (ix2 a d) := by
  have hw : wrapA i (ix2 n 0) = BitVec.ofNat 32 a.val := by
    pointwise [wrapA]
    rw [h]
    simp [IntOp.cmpi, slt_zero, Scalar.select]
  have hg : Host.gather gather_S1024x256_S32768x1_S32768x256_1_0_n_n_0_1_1256 cb (wrapA i) (ix2 n d) = cb (ix2 a d) :=
    Routing.gather_row _ rfl rfl rfl rfl rfl cb (wrapA i) n d a hw (by norm_num)
  pointwise [takeA]
  rw [hg, Finset.univ_unique, Finset.fold_singleton, Fin.default_eq_zero, hw]
  simp [IntOp.cmpi, zero_sle, sle_last, IntOp.andi, Scalar.select]

/-- A stage's codes at a row. -/
theorem stageIdx_apply (r : FArr S32768x256) (cb : FArr S1024x256) (n : Fin 32768) :
    stageIdx r cb (ix1 n) = BitVec.ofNat 32 (Rvq.code (bookOf cb) (rowOf r n)).val := by
  unfold stageIdx
  rw [idxA_apply]
  simp only [distA_apply]; rfl

/-- A stage's picked rows, at an index. -/
theorem stageRow_apply (r : FArr S32768x256) (cb : FArr S1024x256) (n : Fin 32768) (d : Fin 256) :
    stageRow r cb (ix2 n d) = bookOf cb (Rvq.code (bookOf cb) (rowOf r n)) d :=
  takeA_apply cb _ n _ (stageIdx_apply r cb n) d

/-- A row of the next residual is the next residual of the row. -/
theorem rowOf_nextA (r : FArr S32768x256) (cb : FArr S1024x256) (n : Fin 32768) :
    rowOf (nextA r cb) n = Rvq.next (bookOf cb) (rowOf r n) := by
  funext d
  exact congrArg (r (ix2 n d) - ·) (stageRow_apply r cb n d)

/-- A row of the next total is the row's total and the entry picked. -/
theorem rowOf_totA (t r : FArr S32768x256) (cb : FArr S1024x256) (n : Fin 32768) (d : Fin 256) :
    rowOf (totA t r cb) n d = rowOf t n d + bookOf cb (Rvq.code (bookOf cb) (rowOf r n)) d :=
  congrArg (t (ix2 n d) + ·) (stageRow_apply r cb n d)

/-- The codebook of stage `q` at an index. -/
theorem bookOf_cbA (E : FArr S8x1024x256) (q : Fin 8) (h : S8x1024x256.Slices ![q.val, 0, 0] S1x1024x256) (k : Fin 1024) (d : Fin 256) :
    bookOf (cbA E q.val h) k d = E (ix3 q k d) := by
  pointwise [bookOf, cbA]

end Cert.RefLine
-- ==== Proof.RefValue.lean ====
/- The reference's line from end to end: the eight stages chained, the codes stacked, the total put back in its layout. -/
module

public import proofs.«01_k».proof.Proof.RefIndex
public import Idealize.ShloMosaic.Lib.Pipeline.Frame

@[expose] public section

set_option maxRecDepth 16384

noncomputable section

namespace Cert.RefLine

open Idealize.ShloMosaic Idealize.SL.Sem Idealize.ShloMosaic.StableHlo
open Cert.ReferenceIdeal Cert.ReferenceIdeal.Gen

/-! ## What the line does not write -/

/-- The buffers of the codes, stage by stage. -/
def codeRefs : List (DevRef τ sig) := [Proc.devRef .tc main_v23, Proc.devRef .tc main_v44, Proc.devRef .tc main_v65, Proc.devRef .tc main_v86,
  Proc.devRef .tc main_v107, Proc.devRef .tc main_v128, Proc.devRef .tc main_v149, Proc.devRef .tc main_v170]

/-- The line writes neither argument. -/
theorem args_kept : ∀ b ∈ [(Proc.devRef .tc main_arg0 : DevRef τ sig), Proc.devRef .tc main_arg1], ∀ op ∈ ops, b ∉ op.writes := by
  decide +kernel

/-- A stage writes no code of an earlier one. -/
theorem codes_kept : ∀ q : Fin 8, ∀ b ∈ codeRefs.take q.val, ∀ op ∈ seg (4 + 50 * q.val), b ∉ op.writes := by
  decide +kernel

/-- A stage's operation is one of the line's. -/
theorem mem_of_seg {n : ℕ} {op : HloOp τ sig (Elt Ideal)} (h : op ∈ seg n) : op ∈ ops :=
  List.mem_of_mem_drop (List.mem_of_mem_take h)

/-! ## The line in stages -/

variable (V : Valuation τ sig (Elt Ideal))

/-- The contents before stage `q`. -/
def W : ℕ → Valuation τ sig (Elt Ideal)
  | 0 => after (ops.take 4) V
  | q + 1 => after (seg (4 + 50 * q)) (W q)

/-- What is left of the line after `q` stages. -/
theorem after_ops (q : ℕ) : after ops V = after (ops.drop (4 + 50 * q)) (W V q) := by
  induction q with
  | zero =>
    calc after ops V = after (ops.take 4 ++ ops.drop 4) V := by rw [List.take_append_drop]
      _ = _ := after_append _ _ _
  | succ q ih =>
    rw [ih]
    have e : ops.drop (4 + 50 * (q + 1)) = (ops.drop (4 + 50 * q)).drop 50 := by rw [List.drop_drop]; congr 1
    rw [e]
    calc after (ops.drop (4 + 50 * q)) (W V q)
        = after ((ops.drop (4 + 50 * q)).take 50 ++ (ops.drop (4 + 50 * q)).drop 50) (W V q) := by rw [List.take_append_drop]
      _ = _ := after_append _ _ _

/-- A buffer that no operation writes keeps its contents. -/
theorem W_kept (b : DevRef τ sig) (h : ∀ op ∈ ops, b ∉ op.writes) (q : ℕ) : W V q b = V b := by
  induction q with
  | zero => exact after_of_forall_not_mem _ _ fun op ho => h op (List.mem_of_mem_take ho)
  | succ q ih => exact (after_of_forall_not_mem _ _ fun op ho => h op (mem_of_seg ho)).trans ih

/-- A code keeps its contents to the end of the stages. -/
theorem W_code (b : DevRef τ sig) (p k : ℕ) (hk : p + k ≤ 8) (hb : b ∈ codeRefs.take p) : W V (p + k) b = W V p b := by
  induction k with
  | zero => rfl
  | succ k ih =>
    refine (after_of_forall_not_mem _ _ fun op ho => ?_).trans (ih (by omega))
    refine codes_kept ⟨p + k, by omega⟩ b ?_ op ho
    exact List.take_subset_take_left _ (Nat.le_add_right p k) hb

/-! ## The stages chained -/

/-- The codebook of stage `q`. -/
def cbs (E : FArr S8x1024x256) (q : ℕ) : FArr S1024x256 := fun j => E (ix3 (Fin.ofNat 8 q) (j 0) (j 1))

/-- The slice that a stage takes is its codebook. -/
theorem cbA_eq (E : FArr S8x1024x256) (q : ℕ) (hq : q < 8) (h : S8x1024x256.Slices ![q, 0, 0] S1x1024x256) : cbA E q h = cbs E q := by
  funext j
  have := bookOf_cbA E ⟨q, hq⟩ h (j 0) (j 1)
  have e : Fin.ofNat 8 q = ⟨q, hq⟩ := Fin.ext (Nat.mod_eq_of_lt hq)
  unfold cbs; rw [e]
  exact (congrArg (cbA E q h) (ValueIdx.eq_ix2 j)).trans this

/-- The residual before stage `q`. -/
def resA (X : FArr S32768x256) (E : FArr S8x1024x256) : ℕ → FArr S32768x256
  | 0 => X
  | q + 1 => nextA (resA X E q) (cbs E q)

/-- The running total before stage `q`. -/
def sumA (X T : FArr S32768x256) (E : FArr S8x1024x256) : ℕ → FArr S32768x256
  | 0 => T
  | q + 1 => totA (sumA X T E q) (resA X E q) (cbs E q)

/-- One link of the chain. -/
theorem link {X T : FArr S32768x256} {E E' : FArr S8x1024x256} {q : ℕ} (hq : q < 8) {h : S8x1024x256.Slices ![q, 0, 0] S1x1024x256}
    {r t r' t' : FArr S32768x256} {c : IArr S16x2048} (hs : StageEq (cbA E' q h) r t r' t' c) (hE : E' = E)
    (hr : r = resA X E q ∧ t = sumA X T E q) :
    (r' = resA X E (q + 1) ∧ t' = sumA X T E (q + 1)) ∧ c = codeA (resA X E q) (cbs E q) := by
  obtain ⟨rfl, rfl⟩ := hr
  subst hE
  rw [cbA_eq _ q hq] at hs
  exact ⟨⟨hs.1, hs.2.1⟩, hs.2.2⟩

/-- The rows that the line starts from. -/
def rowsA (x : FArr S16x256x2048) : FArr S32768x256 :=
  shapeCast S32768x256 (transpose S16x2048x256 [0, 2, 1] x transposes_S16x256x2048_S16x2048x256_0_2_1) shapeCasts_S16x2048x256_S32768x256
/-- The total that it starts from. -/
def zeroA : FArr S32768x256 := broadcastInDim S32768x256 ![] bcast_S_S32768x256 (constant (F := Ideal) S_ .f32 0x00000000#32)

/-- The first operations. -/
theorem start : W V 0 (Proc.devRef .tc main_v1) = rowsA (V (Proc.devRef .tc main_arg0))
    ∧ W V 0 (Proc.devRef .tc main_v2) = zeroA := by
  unfold W
  constructor
  · after_reads_simp; rfl
  · after_reads_simp; rfl

/-- The total and the codes after the stages. -/
theorem stages : let X := rowsA (V (Proc.devRef .tc main_arg0)); let E : FArr S8x1024x256 := V (Proc.devRef .tc main_arg1)
    W V 8 (Proc.devRef .tc main_v169) = sumA X zeroA E 8
    ∧ W V 8 (Proc.devRef .tc main_v23) = codeA (resA X E 0) (cbs E 0) ∧ W V 8 (Proc.devRef .tc main_v44) = codeA (resA X E 1) (cbs E 1)
    ∧ W V 8 (Proc.devRef .tc main_v65) = codeA (resA X E 2) (cbs E 2) ∧ W V 8 (Proc.devRef .tc main_v86) = codeA (resA X E 3) (cbs E 3)
    ∧ W V 8 (Proc.devRef .tc main_v107) = codeA (resA X E 4) (cbs E 4) ∧ W V 8 (Proc.devRef .tc main_v128) = codeA (resA X E 5) (cbs E 5)
    ∧ W V 8 (Proc.devRef .tc main_v149) = codeA (resA X E 6) (cbs E 6) ∧ W V 8 (Proc.devRef .tc main_v170) = codeA (resA X E 7) (cbs E 7) := by
  intro X E
  have hE (q : ℕ) : W V q (Proc.devRef .tc main_arg1) = V (Proc.devRef .tc main_arg1) :=
    W_kept V _ (args_kept _ (by simp)) q
  have s0 := link (X := X) (T := zeroA) (E := E) (q := 0) (by decide) (stage0 (W V 0)) (hE 0) (start V)
  have s1 := link (X := X) (T := zeroA) (E := E) (q := 1) (by decide) (stage1 (W V 1)) (hE 1) s0.1
  have s2 := link (X := X) (T := zeroA) (E := E) (q := 2) (by decide) (stage2 (W V 2)) (hE 2) s1.1
  have s3 := link (X := X) (T := zeroA) (E := E) (q := 3) (by decide) (stage3 (W V 3)) (hE 3) s2.1
  have s4 := link (X := X) (T := zeroA) (E := E) (q := 4) (by decide) (stage4 (W V 4)) (hE 4) s3.1
  have s5 := link (X := X) (T := zeroA) (E := E) (q := 5) (by decide) (stage5 (W V 5)) (hE 5) s4.1
  have s6 := link (X := X) (T := zeroA) (E := E) (q := 6) (by decide) (stage6 (W V 6)) (hE 6) s5.1
  have s7 := link (X := X) (T := zeroA) (E := E) (q := 7) (by decide) (stage7 (W V 7)) (hE 7) s6.1
  exact ⟨s7.1.2, (W_code V _ 1 7 (by decide) (by simp [codeRefs])).trans s0.2, (W_code V _ 2 6 (by decide) (by simp [codeRefs])).trans s1.2,
    (W_code V _ 3 5 (by decide) (by simp [codeRefs])).trans s2.2, (W_code V _ 4 4 (by decide) (by simp [codeRefs])).trans s3.2,
    (W_code V _ 5 3 (by decide) (by simp [codeRefs])).trans s4.2, (W_code V _ 6 2 (by decide) (by simp [codeRefs])).trans s5.2,
    (W_code V _ 7 1 (by decide) (by simp [codeRefs])).trans s6.2, s7.2⟩

/-- A stage's codes as one row of the stack. -/
def layer (c : IArr S16x2048) : IArr S1x16x2048 := broadcastInDim S1x16x2048 ![1, 2] bcast_S16x2048_S1x16x2048_1_2 c

/-- Eight stages' codes stacked. -/
def stackA (c0 c1 c2 c3 c4 c5 c6 c7 : IArr S16x2048) : IArr S8x16x2048 :=
  concatenate S8x16x2048 0 [⟨S1x16x2048, layer c0⟩, ⟨S1x16x2048, layer c1⟩, ⟨S1x16x2048, layer c2⟩, ⟨S1x16x2048, layer c3⟩,
    ⟨S1x16x2048, layer c4⟩, ⟨S1x16x2048, layer c5⟩, ⟨S1x16x2048, layer c6⟩, ⟨S1x16x2048, layer c7⟩]
    concatenates_S1x16x2048_S1x16x2048_S1x16x2048_S1x16x2048_S1x16x2048_S1x16x2048_S1x16x2048_S1x16x2048_S8x16x2048_d0

/-- The rows back in the layout of the argument. -/
def unrowsA (t : FArr S32768x256) : FArr S16x256x2048 :=
  transpose S16x256x2048 [0, 2, 1] (shapeCast S16x2048x256 t shapeCasts_S32768x256_S16x2048x256) transposes_S16x2048x256_S16x256x2048_0_2_1

/-- The last operations. -/
theorem finish : after (ops.drop 404) V (Proc.devRef .tc main_v181) = unrowsA (V (Proc.devRef .tc main_v169))
    ∧ after (ops.drop 404) V (Proc.devRef .tc main_v179) = stackA (V (Proc.devRef .tc main_v23)) (V (Proc.devRef .tc main_v44))
      (V (Proc.devRef .tc main_v65)) (V (Proc.devRef .tc main_v86)) (V (Proc.devRef .tc main_v107)) (V (Proc.devRef .tc main_v128))
      (V (Proc.devRef .tc main_v149)) (V (Proc.devRef .tc main_v170)) := by
  constructor
  · after_reads_simp; rfl
  · after_reads_simp; rfl

/-! ## The results at an index -/

/-- The codebooks by stage. -/
def booksR (E : FArr S8x1024x256) (q : ℕ) : Rvq.Book := fun k d => E (ix3 (Fin.ofNat 8 q) k d)

/-- A row of the residuals is the row's residual. -/
theorem rowOf_resA (X : FArr S32768x256) (E : FArr S8x1024x256) (n : Fin 32768) (q : ℕ) :
    rowOf (resA X E q) n = Rvq.res (booksR E) (rowOf X n) q := by
  induction q with
  | zero => rfl
  | succ q ih => exact (rowOf_nextA _ _ n).trans (by rw [ih]; rfl)

/-- A row of the totals is the row's total. -/
theorem rowOf_sumA (X T : FArr S32768x256) (E : FArr S8x1024x256) (n : Fin 32768) (hT : rowOf T n = fun _ => 0) (q : ℕ) (d : Fin 256) :
    rowOf (sumA X T E q) n d = Rvq.total (booksR E) (rowOf X n) q d := by
  induction q generalizing d with
  | zero => exact congrFun hT d
  | succ q ih => exact (rowOf_totA _ _ _ n d).trans (by rw [ih, rowOf_resA]; rfl)

/-- The rows' codes laid out by batch and time. -/
theorem cast_apply (v : IArr S32768) (b : Fin 16) (t : Fin 2048) (n : Fin 32768) (hn : n.val = b.val * 2048 + t.val) :
    shapeCast S16x2048 v shapeCasts_S32768_S16x2048 (ix2 b t) = v (ix1 n) := by
  pointwise []
  exact congrArg (fun i => v (ix1 i)) (Fin.ext hn.symm)

/-- A stage's codes by batch and time. -/
theorem codeA_apply (X : FArr S32768x256) (E : FArr S8x1024x256) (q : ℕ) (b : Fin 16) (t : Fin 2048) (n : Fin 32768)
    (hn : n.val = b.val * 2048 + t.val) :
    codeA (resA X E q) (cbs E q) (ix2 b t) = BitVec.ofNat 32 (Rvq.codeAt (booksR E) (rowOf X n) q).val := by
  have h := stageIdx_apply (resA X E q) (cbs E q) n
  have hb : bookOf (cbs E q) = booksR E q := rfl
  rw [rowOf_resA, hb] at h
  unfold codeA
  rw [cast_apply _ b t n hn, h]
  rfl

/-- A row of the flattened argument is a column of the argument. -/
theorem rowOf_rowsA (x : FArr S16x256x2048) (b : Fin 16) (t : Fin 2048) (n : Fin 32768) (hn : n.val = b.val * 2048 + t.val) (d : Fin 256) :
    rowOf (rowsA x) n d = x (ix3 b d t) := by
  pointwise [rowOf, rowsA]
  have := b.isLt
  have := t.isLt
  exact congrArg₂ (fun i j => x (ix3 i d j)) (Fin.ext (by simp only; omega)) (Fin.ext (by simp only; omega))

/-- The rows put back, at an index. -/
theorem unrowsA_apply (r : FArr S32768x256) (b : Fin 16) (t : Fin 2048) (n : Fin 32768) (hn : n.val = b.val * 2048 + t.val) (d : Fin 256) :
    unrowsA r (ix3 b d t) = rowOf r n d := by
  pointwise [rowOf, unrowsA]
  exact congrArg (fun i => r (ix2 i d)) (Fin.ext hn.symm)

/-- The stack at an index is a stage's codes. -/
theorem stackA_apply (c : Fin 8 → IArr S16x2048) (q : Fin 8) (b : Fin 16) (t : Fin 2048) :
    stackA (c 0) (c 1) (c 2) (c 3) (c 4) (c 5) (c 6) (c 7) (ix3 q b t) = c q (ix2 b t) := by
  pointwise [stackA, layer]
  fin_cases q <;> rfl

/-- The total starts at zero. -/
theorem rowOf_zeroA (n : Fin 32768) : rowOf zeroA n = fun _ => 0 := by
  funext d
  pointwise [rowOf, zeroA]

/-- The time step `t` of batch `b`, as a vector. -/
def columnR (x : FArr S16x256x2048) (b : Fin 16) (t : Fin 2048) : Rvq.Vect := fun d => x (ix3 b d t)

/-- The reference's first result is the total of the entries chosen. -/
theorem out_apply (b : Fin 16) (d : Fin 256) (t : Fin 2048) : after ops V (Proc.devRef .tc main_v181) (ix3 b d t)
    = Rvq.total (booksR (V (Proc.devRef .tc main_arg1))) (columnR (V (Proc.devRef .tc main_arg0)) b t) 8 d := by
  have hn : b.val * 2048 + t.val < 32768 := by have := b.isLt; have := t.isLt; omega
  rw [after_ops V 8, (finish (W V 8)).1, (stages V).1]
  refine (unrowsA_apply _ b t ⟨_, hn⟩ rfl d).trans ?_
  rw [rowOf_sumA _ _ _ _ (rowOf_zeroA _),
    show rowOf (rowsA (V (Proc.devRef .tc main_arg0))) ⟨_, hn⟩ = columnR (V (Proc.devRef .tc main_arg0)) b t from
      funext (rowOf_rowsA _ b t _ rfl)]

/-- The reference's second result is the codes, stage by stage. -/
theorem code_apply (q : Fin 8) (b : Fin 16) (t : Fin 2048) : after ops V (Proc.devRef .tc main_v179) (ix3 q b t)
    = BitVec.ofNat 32 (Rvq.codeAt (booksR (V (Proc.devRef .tc main_arg1))) (columnR (V (Proc.devRef .tc main_arg0)) b t) q.val).val := by
  have hn : b.val * 2048 + t.val < 32768 := by have := b.isLt; have := t.isLt; omega
  obtain ⟨-, h0, h1, h2, h3, h4, h5, h6, h7⟩ := stages V
  rw [after_ops V 8, (finish (W V 8)).2, h0, h1, h2, h3, h4, h5, h6, h7]
  refine (stackA_apply (fun q => codeA (resA (rowsA (V (Proc.devRef .tc main_arg0))) (V (Proc.devRef .tc main_arg1)) q.val)
    (cbs (V (Proc.devRef .tc main_arg1)) q.val)) q b t).trans ?_
  rw [codeA_apply _ _ _ b t ⟨_, hn⟩ rfl,
    show rowOf (rowsA (V (Proc.devRef .tc main_arg0))) ⟨_, hn⟩ = columnR (V (Proc.devRef .tc main_arg0)) b t from
      funext (rowOf_rowsA _ b t _ rfl)]

end Cert.RefLine

end
-- ==== Proof.Finite.lean ====
/- The precondition read back: every element of both arguments is a real number. -/
module

public import proofs.«01_k».proof.Defs
public import Idealize.ShloMosaic.Lib.ReduceAll
public import Idealize.ShloMosaic.Lib.Claim
public import Idealize.ShloMosaic.Lib.Pointwise

@[expose] public section

noncomputable section

namespace Cert.Pre_finite

open Idealize.ShloMosaic

/-- The side conditions that the predicate states. -/
theorem facts : Facts where
  bcast_S_S16x256x2048 := by decide
  reducesTo_S16x256x2048_S_d0_1_2 := by decide
  h_S_ := by decide
  bcast_S_S8x1024x256 := by decide
  reducesTo_S8x1024x256_S_d0_1_2 := by decide

/-- An extended real below infinity in absolute value is a real number. -/
theorem real_of_abs_lt (a : EReal) (h : max a (-a) < ⊤) : ∃ r : ℝ, a = r := by
  induction a using EReal.rec with
  | bot => simp at h
  | coe r => exact ⟨r, rfl⟩
  | top => simp at h

/-- An array all of whose elements pass the test is real. -/
theorem real_of_all {s : Shape} (x : FVec Ideal s .f32) (hb : S_.BroadcastsInDim s (![] : Fin 0 → Fin s.rank))
    {axes : List (Fin s.rank)} (hr : s.ReducesTo axes S_) (h0 : 0 < S_.numel) (j : S_.Idx)
    (h : Host.reduce IntOp.andi (cmpf .olt (Host.absf x) (broadcastInDim s ![] hb (constant S_ .f32 0x7F800000#32))) (constantI S_ 1 1#1) hr h0 j = 1#1)
    (i : s.Idx) : ∃ r : ℝ, x i = r := by
  haveI : Subsingleton S_.Idx := ⟨fun a b => funext fun k => k.elim0⟩
  have e := Host.reduce_andi_all _ _ hr h0 j h i
  apply real_of_abs_lt
  have e' : BitVec.ofBool (decide (max (x i) (-(x i)) < Ideal.ofBits .f32 0x7F800000#32)) = 1#1 := e
  have ht : Ideal.ofBits .f32 0x7F800000#32 = ⊤ := by simp [Ideal.ofBits, Ideal.ieee]
  rw [ht] at e'
  by_contra hn
  rw [decide_eq_false hn] at e'
  exact absurd e' (by decide)

/-- Both arguments are real where the predicate is all ones. -/
theorem real [Facts] (x : FVec Ideal S16x256x2048 .f32) (e : FVec Ideal S8x1024x256 .f32) (h : fn x e = fun _ => 1#1) :
    (∀ i, ∃ r : ℝ, x i = r) ∧ ∀ i, ∃ r : ℝ, e i = r := by
  have h1 := IntOp.andi_eq_one.1 (congrFun h (Shape.Idx.first Facts.h_S_))
  exact ⟨real_of_all x _ _ _ _ h1.1, real_of_all e _ _ _ _ h1.2⟩

end Cert.Pre_finite

end
-- ==== Proof.lean ====
/- Residual vector quantisation: the kernel and its reference agree. The modules under Proof/ hold the quantiser itself (Rvq),
   what the kernel's body, its arrays and its run hold (KStage, KBlock, KArrays, KRun), what the reference's line computes
   (RefLine, RefStages, RefIndex, RefValue) and the precondition read back (Finite). This file assembles the claims. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KRun
public import proofs.«01_k».proof.Proof.RefValue
public import proofs.«01_k».proof.Proof.Finite
public import Idealize.ShloMosaic.Adequacy
public import Idealize.ShloMosaic.Init

@[expose] public section

noncomputable section

namespace Cert.Proof

open Idealize.ShloMosaic Idealize.SL.Sem

/-! ## The two values are equal -/

/-- On real arguments a column less its last residual is the total of the entries chosen, so the outputs are equal. -/
theorem out_eq (x : FVec Ideal Cert.KernelIdeal.S16x256x2048 .f32) (e : FVec Ideal Cert.KernelIdeal.S8x1024x256 .f32)
    (hx : ∀ i, ∃ r : ℝ, x i = r) (he : ∀ i, ∃ r : ℝ, e i = r) (b : Fin 16) (d : Fin 256) (t : Fin 2048) :
    Cert.KStage.outArr x e (ix3 b d t) = Rvq.total (Cert.RefLine.booksR e) (Cert.RefLine.columnR x b t) 8 d :=
  Rvq.sub_res (Cert.RefLine.booksR e) (Cert.RefLine.columnR x b t) (fun _ => hx _) (fun _ _ _ => he _) 8 d

/-- The codes at an index. -/
theorem code_eq (x : FVec Ideal Cert.KernelIdeal.S16x256x2048 .f32) (e : FVec Ideal Cert.KernelIdeal.S8x1024x256 .f32)
    (q : Fin 8) (b : Fin 16) (t : Fin 2048) :
    Cert.KStage.codeOut x e (ix3 q b t) = BitVec.ofNat 32 (Rvq.codeAt (Cert.RefLine.booksR e) (Cert.RefLine.columnR x b t) q.val).val := by
  rw [Cert.KStage.codeOut_apply]
  rfl

/-! ## The claims -/

/-- The reference's line writes neither argument. -/
theorem ref_args (m : (ℓ : Loc Cert.ReferenceIdeal.nD Cert.ReferenceIdeal.τ Cert.ReferenceIdeal.sig) → Buf (Elt Ideal) ℓ)
    (c : Dev Cert.ReferenceIdeal.nD) :
    StableHlo.after Cert.RefLine.ops (StableHlo.launchContents m c) (Proc.devRef .tc Cert.ReferenceIdeal.main_arg0)
        = m ((c.tc : Thread Cert.ReferenceIdeal.nD Cert.ReferenceIdeal.τ).loc Cert.ReferenceIdeal.main_arg0)
    ∧ StableHlo.after Cert.RefLine.ops (StableHlo.launchContents m c) (Proc.devRef .tc Cert.ReferenceIdeal.main_arg1)
        = m ((c.tc : Thread Cert.ReferenceIdeal.nD Cert.ReferenceIdeal.τ).loc Cert.ReferenceIdeal.main_arg1) :=
  ⟨StableHlo.after_of_forall_not_mem _ _ (Cert.RefLine.args_kept _ (by simp)),
    StableHlo.after_of_forall_not_mem _ _ (Cert.RefLine.args_kept _ (by simp))⟩

/-- The reference's frame: it runs, its arguments end unchanged, and every counter is zero. -/
theorem ref_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
        ∧ r.2.sem = fun _ => 0) :=
  (θ_run (Cert.ReferenceIdeal.defs (F := Ideal)) _ _).mono (fun r h =>
    ⟨fun c => ⟨(h c Cert.ReferenceIdeal.main_arg0).trans (ref_args m c).1, (h c Cert.ReferenceIdeal.main_arg1).trans (ref_args m c).2⟩,
      Idealize.ShloMosaic.sem_eq_zero_of_no_sems (by decide) r.2⟩) (Cert.RefLine.run m g)

/-- On real arguments the kernel and the reference end with equal outputs and equal codes. -/
theorem algebraic [hF : Cert.Pre_finite.Facts] :
    Cert.algebraic_KernelIdeal_ReferenceIdeal_pre_finite (hKernelIdeal := Cert.KernelIdeal.Gen.facts)
      (hReferenceIdeal := Cert.ReferenceIdeal.Gen.facts) (hPre_finite := hF) := by
  intro m g m' g' hpre hagree
  refine ⟨_, _, Cert.KStage.run m g, ?_⟩
  refine (θ_run (Cert.ReferenceIdeal.defs (F := Ideal)) _ _).mono (fun r h c => ?_) (Cert.RefLine.run m' g')
  obtain ⟨hx, he⟩ := Cert.Pre_finite.real _ _ (hpre c)
  refine ⟨(h c Cert.ReferenceIdeal.main_v181).trans ?_, (h c Cert.ReferenceIdeal.main_v179).trans ?_,
    (h c Cert.ReferenceIdeal.main_arg0).trans (ref_args m' c).1, (h c Cert.ReferenceIdeal.main_arg1).trans (ref_args m' c).2⟩
  · funext j
    have ej := ValueIdx.eq_ix3 j
    rw [ej]
    refine (Cert.RefLine.out_apply (StableHlo.launchContents m' c) (j 0) (j 1) (j 2)).trans ?_
    rw [StableHlo.launchContents_devRef, StableHlo.launchContents_devRef, (hagree c).1, (hagree c).2]
    exact (out_eq _ _ hx he (j 0) (j 1) (j 2)).symm
  · funext j
    have ej := ValueIdx.eq_ix3 j
    rw [ej]
    refine (Cert.RefLine.code_apply (StableHlo.launchContents m' c) (j 0) (j 1) (j 2)).trans ?_
    rw [StableHlo.launchContents_devRef, StableHlo.launchContents_devRef, (hagree c).1, (hagree c).2]
    exact (code_eq _ _ (j 0) (j 1) (j 2)).symm

/-- Everything that the certificate claims. -/
theorem claim : Cert.Claim :=
  ⟨Cert.Kernel.Gen.facts, Cert.KernelIdeal.Gen.facts, Cert.ReferenceIdeal.Gen.facts, Cert.Pre_finite.facts,
    fun m ρ _ => Cert.Kernel.Gen.frame m ρ, fun m ρ _ => Cert.KernelIdeal.Gen.frame m ρ, fun m ρ _ => Cert.KernelIdeal.Gen.frame m ρ,
    fun m g _ => ref_frame m g, fun m g _ => ref_frame m g, trivial, algebraic (hF := Cert.Pre_finite.facts)⟩

end Cert.Proof

end
